-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![4096]⟩ (Layout.meshBlock [2, 4, 4] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.blockN ⟨2, ![2048, 1024]⟩ ⟨2, ![4096, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S_ : Shape := ⟨0, ![]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S8 : Shape := ⟨1, ![8]⟩
abbrev S1 : Shape := ⟨1, ![1]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S1x2048x1024 : Shape := ⟨3, ![1, 2048, 1024]⟩
abbrev S256x1 : Shape := ⟨2, ![256, 1]⟩

abbrev nBuf : Space → Nat
  | .hbm => 38
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S4x1024x2048, .f32⟩
  | .hbm, ⟨3, _⟩ => ⟨S4x2048x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S2048x1, .i32⟩
  | .hbm, ⟨23, _⟩ => ⟨S1x128, .i32⟩
  | .hbm, ⟨24, _⟩ => ⟨S2048x128, .i32⟩
  | .hbm, ⟨25, _⟩ => ⟨S2048x128, .i32⟩
  | .hbm, ⟨26, _⟩ => ⟨S2048x128, .i1⟩
  | .hbm, ⟨27, _⟩ => ⟨S2048x128, .bf16⟩
  | .hbm, ⟨28, _⟩ => ⟨S2048x1, .i32⟩
  | .hbm, ⟨29, _⟩ => ⟨S1x128, .i32⟩
  | .hbm, ⟨30, _⟩ => ⟨S2048x128, .i32⟩
  | .hbm, ⟨31, _⟩ => ⟨S2048x128, .i32⟩
  | .hbm, ⟨32, _⟩ => ⟨S2048x128, .i1⟩
  | .hbm, ⟨33, _⟩ => ⟨S2048x128, .bf16⟩
  | .hbm, ⟨34, _⟩ => ⟨S2048x1024, .bf16⟩
  | .hbm, ⟨35, _⟩ => ⟨S4x1024x2048, .bf16⟩
  | .hbm, ⟨36, _⟩ => ⟨S4x2048x1024, .bf16⟩
  | .hbm, ⟨37, _⟩ => ⟨S2048x1024, .f32⟩
  | .local _ .vmem, ⟨0, _⟩ => ⟨S2048x1024, .bf16⟩
  | .local _ .vmem, ⟨1, _⟩ => ⟨S2048x128, .bf16⟩
  | .local _ .vmem, ⟨2, _⟩ => ⟨S2048x128, .bf16⟩
  | .local _ .vmem, ⟨3, _⟩ => ⟨S4x1024x2048, .bf16⟩
  | .local _ .vmem, ⟨4, _⟩ => ⟨S4x2048x1024, .bf16⟩
  | .local _ .vmem, ⟨5, _⟩ => ⟨S2048x1024, .f32⟩
  | .local _ .vmem, ⟨6, _⟩ => ⟨S2048x1024, .bf16⟩
  | .local _ .vmem, ⟨7, _⟩ => ⟨S2048x128, .bf16⟩
  | .local _ .vmem, ⟨8, _⟩ => ⟨S2048x1024, .bf16⟩
  | .local _ .vmem, ⟨9, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v17 : BitVec 32 := Scalar.muli v9 c16_i32_10
  let v18 : BitVec 32 := Scalar.addi c0_i32_11 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v19 : BitVec 32 := Scalar.muli v5 c4_i32_12
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v21 : BitVec 32 := Scalar.muli v8 c1_i32_13
  let v22 : BitVec 32 := Scalar.addi v20 v21
  v22.toNat
def k0_dev3 (d0 : Dev nD) : Nat :=
  let c0_i32_16 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_15 : BitVec 32 := 16#32
  let v27 : BitVec 32 := Scalar.muli v9 c16_i32_15
  let v28 : BitVec 32 := Scalar.addi c0_i32_16 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17 : BitVec 32 := 4#32
  let v29 : BitVec 32 := Scalar.muli v5 c4_i32_17
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v31 : BitVec 32 := Scalar.muli v8 c1_i32_18
  let v32 : BitVec 32 := Scalar.addi v30 v31
  v32.toNat
@[reducible] def k0_t1_loop : Scf.Loop 32 :=
  let c0_i32_19 : BitVec 32 := 0#32
  let c8_i32 : BitVec 32 := 8#32
  let v37 : BitVec 32 := Scalar.addi c0_i32_19 c8_i32
  let c1_i32_20 : BitVec 32 := 1#32
  ⟨c0_i32_19, v37, c1_i32_20⟩
def k0_off1 (k0_t1 : Fin k0_t1_loop.trips) : Fin 2 → Nat :=
  let c0_i32_19 : BitVec 32 := 0#32
  let c1_i32_20 : BitVec 32 := 1#32
  let arg13 : BitVec 32 := Scf.iv c0_i32_19 c1_i32_20 k0_t1
  let c256_i32 : BitVec 32 := 256#32
  let v60 : BitVec 32 := Scalar.muli arg13 c256_i32
  let v61 : Index := Scalar.indexCast v60
  let c0 : Index := 0#32
  ![v61.toNat, 0]
def k0_off2 (k0_t1 : Fin k0_t1_loop.trips) : Fin 2 → Nat :=
  let c0_i32_19 : BitVec 32 := 0#32
  let c1_i32_20 : BitVec 32 := 1#32
  let arg13 : BitVec 32 := Scf.iv c0_i32_19 c1_i32_20 k0_t1
  let c256_i32 : BitVec 32 := 256#32
  let v60 : BitVec 32 := Scalar.muli arg13 c256_i32
  let v74 : Index := Scalar.indexCast v60
  let c0_57 : Index := 0#32
  ![v74.toNat, 0]
def k0_off3 (k0_t1 : Fin k0_t1_loop.trips) : Fin 2 → Nat :=
  let c0_i32_19 : BitVec 32 := 0#32
  let c1_i32_20 : BitVec 32 := 1#32
  let arg13 : BitVec 32 := Scf.iv c0_i32_19 c1_i32_20 k0_t1
  let c256_i32 : BitVec 32 := 256#32
  let v60 : BitVec 32 := Scalar.muli arg13 c256_i32
  let v90 : Index := Scalar.indexCast v60
  let c1_66 : Index := 1#32
  ![v90.toNat, 1]
def k0_off4 (k0_t1 : Fin k0_t1_loop.trips) : Fin 2 → Nat :=
  let c0_i32_19 : BitVec 32 := 0#32
  let c1_i32_20 : BitVec 32 := 1#32
  let arg13 : BitVec 32 := Scf.iv c0_i32_19 c1_i32_20 k0_t1
  let c256_i32 : BitVec 32 := 256#32
  let v60 : BitVec 32 := Scalar.muli arg13 c256_i32
  let v106 : Index := Scalar.indexCast v60
  let c2_75 : Index := 2#32
  ![v106.toNat, 2]
def k0_off5 (k0_t1 : Fin k0_t1_loop.trips) : Fin 2 → Nat :=
  let c0_i32_19 : BitVec 32 := 0#32
  let c1_i32_20 : BitVec 32 := 1#32
  let arg13 : BitVec 32 := Scf.iv c0_i32_19 c1_i32_20 k0_t1
  let c256_i32 : BitVec 32 := 256#32
  let v60 : BitVec 32 := Scalar.muli arg13 c256_i32
  let v122 : Index := Scalar.indexCast v60
  let c3_84 : Index := 3#32
  ![v122.toNat, 3]
@[reducible] def k0_t2_loop : Scf.Loop 32 :=
  let c0_i32_40 : BitVec 32 := 0#32
  let c8_i32_41 : BitVec 32 := 8#32
  let v58 : BitVec 32 := Scalar.addi c0_i32_40 c8_i32_41
  let c1_i32_42 : BitVec 32 := 1#32
  ⟨c0_i32_40, v58, c1_i32_42⟩
def k0_off6 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let v61 : Index := Scalar.indexCast v60
  let c0 : Index := 0#32
  ![v61.toNat, 0]
def k0_off7 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let v73 : Index := Scalar.indexCast v60
  let c0_57 : Index := 0#32
  ![v73.toNat, 0]
def k0_off8 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let v88 : Index := Scalar.indexCast v60
  let c1_66 : Index := 1#32
  ![v88.toNat, 1]
def k0_off9 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let v103 : Index := Scalar.indexCast v60
  let c2_75 : Index := 2#32
  ![v103.toNat, 2]
def k0_off10 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let v118 : Index := Scalar.indexCast v60
  let c3_84 : Index := 3#32
  ![v118.toNat, 3]
def k0_off11 (k0_t2 : Fin k0_t2_loop.trips) : Fin 1 → Nat :=
  let c0_i32_40 : BitVec 32 := 0#32
  let c1_i32_42 : BitVec 32 := 1#32
  let arg13 : BitVec 32 := Scf.iv c0_i32_40 c1_i32_42 k0_t2
  ![arg13.toNat]
def k0_off12 (k0_t2 : Fin k0_t2_loop.trips) : Fin 2 → Nat :=
  let c0_i32_40 : BitVec 32 := 0#32
  let c1_i32_42 : BitVec 32 := 1#32
  let arg13 : BitVec 32 := Scf.iv c0_i32_40 c1_i32_42 k0_t2
  let c256_i32 : BitVec 32 := 256#32
  let v60 : BitVec 32 := Scalar.muli arg13 c256_i32
  let c0_i32_90 : BitVec 32 := 0#32
  ![v60.toNat, 0]
def k0_dev4 (d0 : Dev nD) : Nat :=
  let c0_i32_87 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_86 : BitVec 32 := 16#32
  let v129 : BitVec 32 := Scalar.muli v9 c16_i32_86
  let v130 : BitVec 32 := Scalar.addi c0_i32_87 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v131 : BitVec 32 := Scalar.muli v5 c4_i32_88
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v133 : BitVec 32 := Scalar.muli v8 c1_i32_89
  let v134 : BitVec 32 := Scalar.addi v132 v133
  v134.toNat
@[reducible] def k0_t3_loop : Scf.Loop 32 :=
  let c0_i32_44 : BitVec 32 := 0#32
  let c8_i32_45 : BitVec 32 := 8#32
  let v59 : BitVec 32 := Scalar.addi c0_i32_44 c8_i32_45
  let c1_i32_46 : BitVec 32 := 1#32
  ⟨c0_i32_44, v59, c1_i32_46⟩
def k0_off13 (k0_t3 : Fin k0_t3_loop.trips) : Fin 1 → Nat :=
  let c0_i32_44 : BitVec 32 := 0#32
  let c1_i32_46 : BitVec 32 := 1#32
  let arg13 : BitVec 32 := Scf.iv c0_i32_44 c1_i32_46 k0_t3
  ![arg13.toNat]
def k0_off14 (k0_t3 : Fin k0_t3_loop.trips) : Fin 2 → Nat :=
  let c0_i32_44 : BitVec 32 := 0#32
  let c1_i32_46 : BitVec 32 := 1#32
  let arg13 : BitVec 32 := Scf.iv c0_i32_44 c1_i32_46 k0_t3
  let c256_i32 : BitVec 32 := 256#32
  let v60 : BitVec 32 := Scalar.muli arg13 c256_i32
  let c0_i32_49 : BitVec 32 := 0#32
  ![v60.toNat, 0]
def k0_off15 (k0_t3 : Fin k0_t3_loop.trips) : Fin 2 → Nat :=
  let c0_i32_44 : BitVec 32 := 0#32
  let c1_i32_46 : BitVec 32 := 1#32
  let arg13 : BitVec 32 := Scf.iv c0_i32_44 c1_i32_46 k0_t3
  let c256_i32 : BitVec 32 := 256#32
  let v60 : BitVec 32 := Scalar.muli arg13 c256_i32
  let v75 : Index := Scalar.indexCast v60
  let c0 : Index := 0#32
  ![v75.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S4096x1 : Shape := ⟨2, ![4096, 1]⟩
abbrev S1x2048x1024 : Shape := ⟨3, ![1, 2048, 1024]⟩
abbrev S2048x1024 : Shape := ⟨2, ![2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S8x1024x2048, .f32⟩
  | .hbm, ⟨3, _⟩ => ⟨S8x2048x1024, .f32⟩
  | .hbm, ⟨4, _⟩ => ⟨S_, .f32⟩
  | .hbm, ⟨5, _⟩ => ⟨S4096x1024, .f32⟩
  | .hbm, ⟨6, _⟩ => ⟨S1x1024x2048, .f32⟩
  | .hbm, ⟨7, _⟩ => ⟨S1024x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096x1, .i1⟩
  | .hbm, ⟨16, _⟩ => ⟨S1x2048x1024, .f32⟩
  | .hbm, ⟨17, _⟩ => ⟨S2048x1024, .f32⟩
  | .hbm, ⟨18, _⟩ => ⟨S4096x1024, .f32⟩
  | .hbm, ⟨19, _⟩ => ⟨S4096x1024, .i1⟩
  | .hbm, ⟨20, _⟩ => ⟨S4096x1024, .f32⟩
  | .hbm, ⟨21, _⟩ => ⟨S1x1024x2048, .f32⟩
  | .hbm, ⟨22, _⟩ => ⟨S1024x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S4096x1, .i1⟩
  | .hbm, ⟨31, _⟩ => ⟨S1x2048x1024, .f32⟩
  | .hbm, ⟨32, _⟩ => ⟨S2048x1024, .f32⟩
  | .hbm, ⟨33, _⟩ => ⟨S4096x1024, .f32⟩
  | .hbm, ⟨34, _⟩ => ⟨S4096x1024, .i1⟩
  | .hbm, ⟨35, _⟩ => ⟨S4096x1024, .f32⟩
  | .hbm, ⟨36, _⟩ => ⟨S1x1024x2048, .f32⟩
  | .hbm, ⟨37, _⟩ => ⟨S1024x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S4096x1, .i1⟩
  | .hbm, ⟨46, _⟩ => ⟨S1x2048x1024, .f32⟩
  | .hbm, ⟨47, _⟩ => ⟨S2048x1024, .f32⟩
  | .hbm, ⟨48, _⟩ => ⟨S4096x1024, .f32⟩
  | .hbm, ⟨49, _⟩ => ⟨S4096x1024, .i1⟩
  | .hbm, ⟨50, _⟩ => ⟨S4096x1024, .f32⟩
  | .hbm, ⟨51, _⟩ => ⟨S1x1024x2048, .f32⟩
  | .hbm, ⟨52, _⟩ => ⟨S1024x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096x1, .i1⟩
  | .hbm, ⟨61, _⟩ => ⟨S1x2048x1024, .f32⟩
  | .hbm, ⟨62, _⟩ => ⟨S2048x1024, .f32⟩
  | .hbm, ⟨63, _⟩ => ⟨S4096x1024, .f32⟩
  | .hbm, ⟨64, _⟩ => ⟨S4096x1024, .i1⟩
  | .hbm, ⟨65, _⟩ => ⟨S4096x1024, .f32⟩
  | .hbm, ⟨66, _⟩ => ⟨S1x1024x2048, .f32⟩
  | .hbm, ⟨67, _⟩ => ⟨S1024x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S4096x1, .i1⟩
  | .hbm, ⟨76, _⟩ => ⟨S1x2048x1024, .f32⟩
  | .hbm, ⟨77, _⟩ => ⟨S2048x1024, .f32⟩
  | .hbm, ⟨78, _⟩ => ⟨S4096x1024, .f32⟩
  | .hbm, ⟨79, _⟩ => ⟨S4096x1024, .i1⟩
  | .hbm, ⟨80, _⟩ => ⟨S4096x1024, .f32⟩
  | .hbm, ⟨81, _⟩ => ⟨S1x1024x2048, .f32⟩
  | .hbm, ⟨82, _⟩ => ⟨S1024x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S4096x1, .i1⟩
  | .hbm, ⟨91, _⟩ => ⟨S1x2048x1024, .f32⟩
  | .hbm, ⟨92, _⟩ => ⟨S2048x1024, .f32⟩
  | .hbm, ⟨93, _⟩ => ⟨S4096x1024, .f32⟩
  | .hbm, ⟨94, _⟩ => ⟨S4096x1024, .i1⟩
  | .hbm, ⟨95, _⟩ => ⟨S4096x1024, .f32⟩
  | .hbm, ⟨96, _⟩ => ⟨S1x1024x2048, .f32⟩
  | .hbm, ⟨97, _⟩ => ⟨S1024x2048, .f32⟩
  | .hbm, ⟨98, _⟩ => ⟨S4096x2048, .f32⟩
  | .hbm, ⟨99, _⟩ => ⟨S_, .f32⟩
  | .hbm, ⟨100, _⟩ => ⟨S4096x2048, .f32⟩
  | .hbm, ⟨101, _⟩ => ⟨S4096x2048, .f32⟩
  | .hbm, ⟨102, _⟩ => ⟨S_, .i32⟩
  | .hbm, ⟨103, _⟩ => ⟨S4096, .i32⟩
  | .hbm, ⟨104, _⟩ => ⟨S4096, .i1⟩
  | .hbm, ⟨105, _⟩ => ⟨S4096x1, .i1⟩
  | .hbm, ⟨106, _⟩ => ⟨S1x2048x1024, .f32⟩
  | .hbm, ⟨107, _⟩ => ⟨S2048x1024, .f32⟩
  | .hbm, ⟨108, _⟩ => ⟨S4096x1024, .f32⟩
  | .hbm, ⟨109, _⟩ => ⟨S4096x1024, .i1⟩
  | .hbm, ⟨110, _⟩ => ⟨S4096x1024, .f32⟩
  | .hbm, ⟨111, _⟩ => ⟨S1x1024x2048, .f32⟩
  | .hbm, ⟨112, _⟩ => ⟨S1024x2048, .f32⟩
  | .hbm, ⟨113, _⟩ => ⟨S4096x2048, .f32⟩
  | .hbm, ⟨114, _⟩ => ⟨S_, .f32⟩
  | .hbm, ⟨115, _⟩ => ⟨S4096x2048, .f32⟩
  | .hbm, ⟨116, _⟩ => ⟨S4096x2048, .f32⟩
  | .hbm, ⟨117, _⟩ => ⟨S_, .i32⟩
  | .hbm, ⟨118, _⟩ => ⟨S4096, .i32⟩
  | .hbm, ⟨119, _⟩ => ⟨S4096, .i1⟩
  | .hbm, ⟨120, _⟩ => ⟨S4096x1, .i1⟩
  | .hbm, ⟨121, _⟩ => ⟨S1x2048x1024, .f32⟩
  | .hbm, ⟨122, _⟩ => ⟨S2048x1024, .f32⟩
  | .hbm, ⟨123, _⟩ => ⟨S4096x1024, .f32⟩
  | .hbm, ⟨124, _⟩ => ⟨S4096x1024, .i1⟩
  | .hbm, ⟨125, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call2_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call3_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_c_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call4_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call5_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_c_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call6_v0 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_c_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call7_v0 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Proof.Rows.lean ====
module

public import proofs.«01_k».proof.Proof.Gen.KernelIdeal.Skeleton

/-!
The row blocks of the kernel's buffers, and the values that its two loops store in them: every
block of 256 rows as one function of the buffers it is read from.
-/

@[expose] public section

namespace Cert.KernelIdeal.Rows

open Idealize.ShloMosaic Cert.KernelIdeal.Gen

variable {F : FTy → Type} [FloatOps F]

/-- A block of rows lies in the buffer. -/
theorem row_inb (k : Fin 8) : ∀ a, (![256 * k.val, 0] : Fin 2 → Nat) a + S256x1024.size a ≤ S2048x1024.size a := by
  revert k; decide

/-- One column of a block of rows lies in the mask. -/
theorem col_inb (k : Fin 8) (e : Fin 4) : ∀ a, (![256 * k.val, e.val] : Fin 2 → Nat) a + S256x1.size a ≤ S2048x128.size a := by
  revert k e; decide

/-- One expert's first weights lie in the array. -/
theorem w1_inb (e : Fin 4) : ∀ a, (![e.val, 0, 0] : Fin 3 → Nat) a + S1x1024x2048.size a ≤ S4x1024x2048.size a := by
  revert e; decide

/-- One expert's second weights lie in the array. -/
theorem w2_inb (e : Fin 4) : ∀ a, (![e.val, 0, 0] : Fin 3 → Nat) a + S1x2048x1024.size a ≤ S4x2048x1024.size a := by
  revert e; decide

/-- Block `k` of a buffer's rows. -/
abbrev rowR (k : Fin 8) : Rect S2048x1024 := Rect.unit (s := S2048x1024) ![256 * k.val, 0] S256x1024.size (row_inb k)

/-- Block `k` of column `e` of a mask. -/
abbrev colR (k : Fin 8) (e : Fin 4) : Rect S2048x128 := Rect.unit (s := S2048x128) ![256 * k.val, e.val] S256x1.size (col_inb k e)

/-- Expert `e` of the first weights. -/
abbrev w1R (e : Fin 4) : Rect S4x1024x2048 := Rect.unit (s := S4x1024x2048) ![e.val, 0, 0] S1x1024x2048.size (w1_inb e)

/-- Expert `e` of the second weights. -/
abbrev w2R (e : Fin 4) : Rect S4x2048x1024 := Rect.unit (s := S4x2048x1024) ![e.val, 0, 0] S1x2048x1024.size (w2_inb e)

/-- The rows of block `k` of a buffer. -/
def rowsRd {e : EltTy} (k : Fin 8) (f : S2048x1024.Idx → Elt F e) : Vec F S256x1024 e := fun j => f ((rowR k).emb j)

/-- The rows of block `k` of a mask's column `e`. -/
def colRd (k : Fin 8) (e : Fin 4) (f : S2048x128.Idx → Elt F .bf16) : Vec F S256x1 .bf16 := fun j => f ((colR k e).emb j)

/-- The first weights of expert `e`. -/
def w1Rd (e : Fin 4) (f : S4x1024x2048.Idx → Elt F .bf16) : Vec F S1x1024x2048 .bf16 := fun j => f ((w1R e).emb j)

/-- The second weights of expert `e`. -/
def w2Rd (e : Fin 4) (f : S4x2048x1024.Idx → Elt F .bf16) : Vec F S1x2048x1024 .bf16 := fun j => f ((w2R e).emb j)

/-- The set of row block `k`. -/
def rowsOf (k : Fin 8) : Finset S2048x1024.Idx := Finset.univ.filter fun i => 256 * k.val ≤ (i 0 : Nat) ∧ (i 0 : Nat) < 256 * (k.val + 1)

/-- The rows from block `n` on. -/
def rowsFrom (n : Nat) : Finset S2048x1024.Idx := Finset.univ.filter fun i => 256 * n ≤ (i 0 : Nat)

/-- The rows below block `n`. -/
def rowsBelow (n : Nat) : Finset S2048x1024.Idx := Finset.univ.filter fun i => (i 0 : Nat) < 256 * n

/-- Where a row of block `k` stands in the buffer. -/
theorem rowR_emb0 (k : Fin 8) (j : S256x1024.Idx) : (((rowR k).emb j) 0 : Nat) = 256 * k.val + (j 0 : Nat) := by
  refine ((rowR k).emb_apply j 0).trans ?_
  show 256 * k.val + 1 * (j 0 : Nat) = _
  omega

/-- A column keeps its place. -/
theorem rowR_emb1 (k : Fin 8) (j : S256x1024.Idx) : (((rowR k).emb j) 1 : Nat) = (j 1 : Nat) := by
  refine ((rowR k).emb_apply j 1).trans ?_
  show 0 + 1 * (j 1 : Nat) = _
  omega

/-- The element of a block at the place of an element of the buffer. -/
def inBlock (i : S2048x1024.Idx) : S256x1024.Idx := fun a =>
  match a with
  | ⟨0, _⟩ => ⟨(i 0 : Nat) % 256, Nat.mod_lt _ (by decide)⟩
  | ⟨1, _⟩ => ⟨(i 1 : Nat), (i 1).isLt⟩

/-- The block an element of the buffer is in. -/
def blockOf (i : S2048x1024.Idx) : Fin 8 := ⟨(i 0 : Nat) / 256, by
  have : (i 0 : Nat) < 2048 := (i 0).isLt
  omega⟩

/-- An element of block `k` is in block `k`. -/
theorem blockOf_emb (k : Fin 8) (j : S256x1024.Idx) : blockOf ((rowR k).emb j) = k := by
  have h : (j 0 : Nat) < 256 := (j 0).isLt
  refine Fin.ext ?_
  show (((rowR k).emb j) 0 : Nat) / 256 = k.val
  rw [rowR_emb0]; omega

/-- Its place in the block is the one it came from. -/
theorem inBlock_emb (k : Fin 8) (j : S256x1024.Idx) : inBlock ((rowR k).emb j) = j := by
  have h : (j 0 : Nat) < 256 := (j 0).isLt
  funext a
  fin_cases a
  · refine Fin.ext ?_
    show (((rowR k).emb j) 0 : Nat) % 256 = (j 0 : Nat)
    rw [rowR_emb0]; omega
  · refine Fin.ext ?_
    show (((rowR k).emb j) 1 : Nat) = (j 1 : Nat)
    rw [rowR_emb1]

/-- Every element is its place in its block. -/
theorem emb_inBlock (i : S2048x1024.Idx) : (rowR (blockOf i)).emb (inBlock i) = i := by
  funext a
  fin_cases a
  · refine Fin.ext ?_
    show (((rowR (blockOf i)).emb (inBlock i)) 0 : Nat) = (i 0 : Nat)
    rw [rowR_emb0]
    show 256 * ((i 0 : Nat) / 256) + (i 0 : Nat) % 256 = _
    omega
  · refine Fin.ext ?_
    show (((rowR (blockOf i)).emb (inBlock i)) 1 : Nat) = (i 1 : Nat)
    rw [rowR_emb1]; rfl

/-- The elements of the block's rectangle are the block's rows. -/
theorem rowR_set (k : Fin 8) : (rowR k).set = rowsOf k := by
  ext i
  have h1 : (i 1 : Nat) < 1024 := (i 1).isLt
  refine (Rect.mem_set_unit (inb := row_inb k)).trans ?_
  refine Fin.forall_fin_two.trans ?_
  refine Iff.trans ?_ (Finset.mem_filter.trans (and_iff_right (Finset.mem_univ _))).symm
  show (256 * k.val ≤ (i 0 : Nat) ∧ (i 0 : Nat) < 256 * k.val + 256) ∧ (0 ≤ (i 1 : Nat) ∧ (i 1 : Nat) < 0 + 1024) ↔ _
  omega

/-- The rows of block `k` have block number `k`. -/
theorem blockOf_of_mem {k : Fin 8} {i : S2048x1024.Idx} (h : i ∈ rowsOf k) : blockOf i = k := by
  obtain ⟨-, h1, h2⟩ := Finset.mem_filter.mp h
  exact Fin.ext (by show (i 0 : Nat) / 256 = _; omega)

/-- Every element is among the rows of its block. -/
theorem mem_of_blockOf (i : S2048x1024.Idx) : i ∈ rowsOf (blockOf i) := by
  refine Finset.mem_filter.mpr ⟨Finset.mem_univ _, ?_, ?_⟩
  · show 256 * ((i 0 : Nat) / 256) ≤ _
    omega
  · show _ < 256 * ((i 0 : Nat) / 256 + 1)
    omega

/-- The rows from block `k` on are that block and the rows after it. -/
theorem rowsFrom_split (k : Fin 8) : rowsFrom k.val = rowsOf k ∪ rowsFrom (k.val + 1) := by
  ext i
  simp only [rowsFrom, rowsOf, Finset.mem_union, Finset.mem_filter, Finset.mem_univ, true_and]
  omega

/-- Block `k` is apart from the rows after it. -/
theorem rowsFrom_disj (k : Fin 8) : Disjoint (rowsOf k) (rowsFrom (k.val + 1)) := by
  rw [Finset.disjoint_left]
  intro i
  simp only [rowsFrom, rowsOf, Finset.mem_filter, Finset.mem_univ, true_and]
  omega

/-- The rows below the next block are those below block `k`, and block `k`. -/
theorem rowsBelow_succ (k : Fin 8) : rowsBelow (k.val + 1) = rowsBelow k.val ∪ rowsOf k := by
  ext i
  simp only [rowsBelow, rowsOf, Finset.mem_union, Finset.mem_filter, Finset.mem_univ, true_and]
  omega

/-- Block `k` is apart from the rows below it. -/
theorem rowsBelow_disj (k : Fin 8) : Disjoint (rowsBelow k.val) (rowsOf k) := by
  rw [Finset.disjoint_left]
  intro i
  simp only [rowsBelow, rowsOf, Finset.mem_filter, Finset.mem_univ, true_and]
  omega

/-- From the first block on: all rows. -/
theorem rowsFrom_zero : rowsFrom 0 = Finset.univ := by
  ext i; simp [rowsFrom]

/-- Below the first block: no rows. -/
theorem rowsBelow_zero : rowsBelow 0 = ∅ := by
  ext i; simp [rowsBelow]

/-- Below the end: all rows. -/
theorem rowsBelow_eight : rowsBelow 8 = Finset.univ := by
  ext i
  have : (i 0 : Nat) < 2048 := (i 0).isLt
  simp only [rowsBelow, Finset.mem_filter, Finset.mem_univ, true_and, iff_true]
  omega

/-- From the end on: no rows. -/
theorem rowsFrom_eight : rowsFrom 8 = ∅ := by
  ext i
  have : (i 0 : Nat) < 2048 := (i 0).isLt
  simp only [rowsFrom, Finset.mem_filter, Finset.mem_univ, true_and, Finset.notMem_empty, iff_false]
  omega

/-- What the first loop stores in block `k` of the result. -/
noncomputable def ownBlk (X : S2048x1024.Idx → Elt F .bf16) (M : S2048x128.Idx → Elt F .bf16)
    (W1 : S4x1024x2048.Idx → Elt F .bf16) (W2 : S4x2048x1024.Idx → Elt F .bf16) (k : Fin 8) :
    FVec F S256x1024 .f32 :=
  k0_pay7 (k0_pay2 (rowsRd k X))
    (k0_pay3 (rowsRd k X) (w1Rd 0 W1) (w2Rd 0 W2) (colRd k 0 M))
    (k0_pay4 (rowsRd k X) (w1Rd 1 W1) (w2Rd 1 W2) (colRd k 1 M))
    (w1Rd 2 W1) (w2Rd 2 W2) (colRd k 2 M) (w1Rd 3 W1) (w2Rd 3 W2) (colRd k 3 M)

/-- What the second loop stores in block `k` of the part that it sends. -/
noncomputable def partBlk (X : S2048x1024.Idx → Elt F .bf16) (M : S2048x128.Idx → Elt F .bf16)
    (W1 : S4x1024x2048.Idx → Elt F .bf16) (W2 : S4x2048x1024.Idx → Elt F .bf16) (k : Fin 8) :
    FVec F S256x1024 .bf16 :=
  k0_pay6 (rowsRd k X)
    (k0_pay5 (rowsRd k X) (w1Rd 0 W1) (w2Rd 0 W2) (colRd k 0 M) (w1Rd 1 W1) (w2Rd 1 W2) (colRd k 1 M))
    (w1Rd 2 W1) (w2Rd 2 W2) (colRd k 2 M) (w1Rd 3 W1) (w2Rd 3 W2) (colRd k 3 M)

/-- The result's buffer after the first loop. -/
noncomputable def ownV (X : S2048x1024.Idx → Elt F .bf16) (M : S2048x128.Idx → Elt F .bf16)
    (W1 : S4x1024x2048.Idx → Elt F .bf16) (W2 : S4x2048x1024.Idx → Elt F .bf16) :
    S2048x1024.Idx → Elt F .f32 := fun i => ownBlk X M W1 W2 (blockOf i) (inBlock i)

/-- The part sent by the second loop. -/
noncomputable def partV (X : S2048x1024.Idx → Elt F .bf16) (M : S2048x128.Idx → Elt F .bf16)
    (W1 : S4x1024x2048.Idx → Elt F .bf16) (W2 : S4x2048x1024.Idx → Elt F .bf16) :
    S2048x1024.Idx → Elt F .bf16 := fun i => partBlk X M W1 W2 (blockOf i) (inBlock i)

/-- The result: what the first loop left, plus the part received. -/
noncomputable def sumV (A : S2048x1024.Idx → Elt F .f32) (R : S2048x1024.Idx → Elt F .bf16) :
    S2048x1024.Idx → Elt F .f32 := fun i => k0_pay1 (rowsRd (blockOf i) A) (rowsRd (blockOf i) R) (inBlock i)

end Cert.KernelIdeal.Rows
-- ==== Proof.Trips.lean ====
module

public import proofs.«01_k».proof.Proof.Rows
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's own cells, and the kernel's. -/
abbrev UU : Type := UR sig nD τ × UR sig nD τ

local notation "𝕄" => MT nD τ sig Unit (Elt F) ℕ UU ℕ

/-- One trip's body of the first loop, at the buffers the launch passes. -/
abbrev body1 (d0 : Dev nD) (v5 v8 v9 v30 : BitVec 32) (k : Fin k0_t1_loop.trips) :
    Prog (TpuEff nD τ sig (Elt F) Λ₀ .tc) PUnit :=
  k0_t1_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 d0 v5 v8 v9 v30 k PUnit.unit

variable (𝒱 : Variants) (c : Dev nD)

/-- A buffer with block `k` of its rows replaced. -/
def putRows {e : EltTy} (k : Fin 8) (f : S2048x1024.Idx → Elt F e) (w : Vec F S256x1024 e) : S2048x1024.Idx → Elt F e :=
  fun i => if blockOf i = k then w (inBlock i) else f i

/-- In the replaced block the new rows stand. -/
theorem putRows_block {e : EltTy} (k : Fin 8) (f : S2048x1024.Idx → Elt F e) (w : Vec F S256x1024 e) (i : S2048x1024.Idx)
    (h : blockOf i = k) : putRows k f w i = w (inBlock i) := if_pos h

/-- Outside it the old ones stand. -/
theorem putRows_other {e : EltTy} (k : Fin 8) (f : S2048x1024.Idx → Elt F e) (w : Vec F S256x1024 e) (i : S2048x1024.Idx)
    (h : blockOf i ≠ k) : putRows k f w i = f i := if_neg h

/-- The block of a trip of the first loop. -/
def b1 (k : Fin k0_t1_loop.trips) : Fin 8 := ⟨k.val, Nat.lt_of_lt_of_le k.isLt k0_t1_abs.2.1⟩
/-- The block of a trip of the second loop. -/
def b2 (k : Fin k0_t2_loop.trips) : Fin 8 := ⟨k.val, Nat.lt_of_lt_of_le k.isLt k0_t2_abs.2.1⟩
/-- The block of a trip of the third loop. -/
def b3 (k : Fin k0_t3_loop.trips) : Fin 8 := ⟨k.val, Nat.lt_of_lt_of_le k.isLt k0_t3_abs.2.1⟩

/-- A unit rectangle at an equal offset reads the same elements. -/
theorem read_off {s : Shape} {e : EltTy} {off off' size : Fin s.rank → Nat} (inb) (inb') (h : off = off')
    (f : s.Idx → Elt F e) :
    (fun j => f ((Rect.unit (s := s) off size inb).emb j)) = fun j => f ((Rect.unit (s := s) off' size inb').emb j) := by
  subst h; rfl

/-- A store of 256 rows into the result's buffer replaces the block at its offset. -/
theorem put_off (k : Fin 8) {off : Fin 2 → Nat} (inb) (h : off = ![256 * k.val, 0]) (f : S2048x1024.Idx → Elt F .f32)
    (w w' : Vec F S256x1024 .f32) (hw : w = w') :
    (Memref.whole cc0_stg5_0).view.writes (Elt F) f [⟨Rect.unit (s := S2048x1024) off S256x1024.size inb, w⟩] = putRows k f w' := by
  subst h hw
  show ((Memref.whole cc0_stg5_0).view.slice (rowR k)).write (Elt F) f w Finset.univ = _
  funext i
  by_cases hi : blockOf i = k
  · rw [putRows_block k f w i hi]
    have he : ((Memref.whole cc0_stg5_0).view.slice (rowR k)).emb (inBlock i) = i := by
      exact (congrArg (fun k' => (rowR k').emb (inBlock i)) hi.symm).trans (emb_inBlock i)
    have h := View.write_emb_of_mem (v := (Memref.whole cc0_stg5_0).view.slice (rowR k)) (Val := Elt F) (M := Finset.univ) f w (Finset.mem_univ (inBlock i))
    rw [he] at h
    exact h
  · rw [putRows_other k f w i hi]
    refine View.write_of_not_mem _ _ _ ?_
    rw [View.setOn_univ, View.set_slice_whole, rowR_set]
    exact fun hm => hi (blockOf_of_mem hm)

/-- Equal contents are the same hold. -/
theorem pts_eq {ℓ : Loc nD τ sig} {S : Finset (Idx ℓ)} {q : PosShare TreeShare} {f g : Buf (Elt F) ℓ} (h : f = g) :
    (ℓ ↦[S]{q} f) ⊢@{sProp 𝕄} (ℓ ↦[S]{q} g) := by subst h; exact .rfl

/-- One trip of the first loop: the block of the result takes the four own experts' masked answers. -/
theorem trip1 (d0 : Dev nD) (v5 v8 v9 v30 : BitVec 32) (k : Fin k0_t1_loop.trips) (q : PosShare TreeShare)
    (X : S2048x1024.Idx → Elt F .bf16) (M : S2048x128.Idx → Elt F .bf16)
    (W1 : S4x1024x2048.Idx → Elt F .bf16) (W2 : S4x2048x1024.Idx → Elt F .bf16) (f : S2048x1024.Idx → Elt F .f32) :
    iprop(((Memref.whole cc0_stg0_0).view.loc (c : Thread nD τ) ↦[(Memref.whole cc0_stg0_0).view.set]{q} X) ∗ ((Memref.whole cc0_stg1_0).view.loc (c : Thread nD τ) ↦[(Memref.whole cc0_stg1_0).view.set]{fullShare} M) ∗
      ((Memref.whole cc0_stg3_0).view.loc (c : Thread nD τ) ↦[(Memref.whole cc0_stg3_0).view.set]{fullShare} W1) ∗ ((Memref.whole cc0_stg4_0).view.loc (c : Thread nD τ) ↦[(Memref.whole cc0_stg4_0).view.set]{fullShare} W2) ∗
      ((Memref.whole cc0_stg5_0).view.loc (c : Thread nD τ) ↦[(Memref.whole cc0_stg5_0).view.set]{fullShare} f))
    ⊢@{sProp 𝕄} wp frame (wpE (defs₀ (F := F)) 𝒱 (c : Thread nD τ) none) Set.univ (body1 (F := F) d0 v5 v8 v9 v30 k)
      (fun _ => iprop(((Memref.whole cc0_stg0_0).view.loc (c : Thread nD τ) ↦[(Memref.whole cc0_stg0_0).view.set]{q} X) ∗ ((Memref.whole cc0_stg1_0).view.loc (c : Thread nD τ) ↦[(Memref.whole cc0_stg1_0).view.set]{fullShare} M) ∗
        ((Memref.whole cc0_stg3_0).view.loc (c : Thread nD τ) ↦[(Memref.whole cc0_stg3_0).view.set]{fullShare} W1) ∗ ((Memref.whole cc0_stg4_0).view.loc (c : Thread nD τ) ↦[(Memref.whole cc0_stg4_0).view.set]{fullShare} W2) ∗
        ((Memref.whole cc0_stg5_0).view.loc (c : Thread nD τ) ↦[(Memref.whole cc0_stg5_0).view.set]{fullShare} putRows (b1 k) f (ownBlk X M W1 W2 (b1 k))))) := by
  unfold body1 k0_t1_body
  iintro ⟨H0, H1, H3, H4, H5⟩
  sl_exec
  sl_step
  isplitl [H0]; iexact H0
  isplitl [H1]; iexact H1
  isplitl [H3]; iexact H3
  isplitl [H4]; iexact H4
  refine pts_eq (put_off (b1 k) _ (k0_off1_eq k) _ _ _ ?_)
  unfold ownBlk
  rw [← show _ = rowsRd (b1 k) X from read_off (k0_off1_inb k) _ (k0_off1_eq k) X,
    ← show _ = colRd (b1 k) 0 M from read_off (k0_off2_inb k) _ (k0_off2_eq k) M,
    ← show _ = colRd (b1 k) 1 M from read_off (k0_off3_inb k) _ (k0_off3_eq k) M,
    ← show _ = colRd (b1 k) 2 M from read_off (k0_off4_inb k) _ (k0_off4_eq k) M,
    ← show _ = colRd (b1 k) 3 M from read_off (k0_off5_inb k) _ (k0_off5_eq k) M]
  rfl

end Cert.KernelIdeal.Rows
-- ==== Proof.Protocol.lean ====
module

public import proofs.«01_k».proof.Proof.Trips

/-!
The protocol of the kernel between a device and its partner on the first mesh axis: for every
semaphore, who raises it, by how much, and the contents that are handed over with it.

Device `c` signals its partner's barrier, handing over its three landing buffers; it waits for its
own barrier and gets the partner's. It copies its tokens and its mask of foreign experts to the
partner, computes its own part, and waits for the four ends of those two copies. Then it computes,
block by block, the part of the partner's tokens, and copies every block back; at the end it waits
for both ends of each of those copies and adds what it was sent.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's half of the ghost state. -/
abbrev EP : Emb (UR sig nD τ) (MT nD τ sig Unit (Elt F) ℕ UU ℕ) := embL
/-- The kernel's half of the ghost state. -/
abbrev ER : Emb (UR sig nD τ) (MT nD τ sig Unit (Elt F) ℕ UU ℕ) := embR

/-! ## Devices and cells -/

/-- The partner on the first mesh axis. -/
def pr (c : Dev nD) : Dev nD := ⟨(c.val + 16) % 32, Nat.mod_lt _ (by decide)⟩
/-- The partner's partner is the device itself. -/
theorem pr_pr (c : Dev nD) : pr (pr c) = c := by revert c; decide
/-- The partners, as a rearrangement of the devices. -/
def ring : Dev nD ≃ Dev nD := ⟨pr, pr, pr_pr, pr_pr⟩

/-- The device that the barrier signals is the partner. -/
theorem dev1_eq : ∀ c : Dev nD, (⟨k0_dev1 c, k0_dev1_lt c⟩ : Dev nD) = pr c := by decide +kernel
/-- The device that the tokens' copy goes to is the partner. -/
theorem dev2_eq : ∀ c : Dev nD, (⟨k0_dev2 c, k0_dev2_lt c⟩ : Dev nD) = pr c := by decide +kernel
/-- The device that the mask's copy goes to is the partner. -/
theorem dev3_eq : ∀ c : Dev nD, (⟨k0_dev3 c, k0_dev3_lt c⟩ : Dev nD) = pr c := by decide +kernel
/-- The device that the blocks' copies go to is the partner. -/
theorem dev4_eq : ∀ c : Dev nD, (⟨k0_dev4 c, k0_dev4_lt c⟩ : Dev nD) = pr c := by decide +kernel

/-- The kernel's own DMA semaphores, numbered from zero: the two ends of the copy of the tokens, of the
    copy of the mask, the senders' ends of the blocks and their receivers' ends. -/
def osem (k : Fin 20) : SemLoc sig := .dma (⟨6 + k.val, by have := k.isLt; omega⟩ : Fin 26)

/-- The barrier of device `c`. -/
abbrev barC (c : Dev nD) : GSem nD τ sig := ((c : Thread nD τ), .reg barrier0)
/-- DMA semaphore `k` of device `c`. -/
abbrev dC (c : Dev nD) (k : Fin 20) : GSem nD τ sig := ((c : Thread nD τ), osem k)

/-- The sender's end of block `i`. -/
def sb (i : Fin 8) : Fin 20 := ⟨4 + i.val, by have := i.isLt; omega⟩
/-- The receiver's end of block `i`. -/
def rb (i : Fin 8) : Fin 20 := ⟨12 + i.val, by have := i.isLt; omega⟩

/-! ## The contents -/

/-- What a device's kernel starts from: its tokens, its masks of own and of foreign experts, its weights. -/
structure Inp (F : FTy → Type) where
  x : S2048x1024.Idx → Elt F .bf16
  keep : S2048x128.Idx → Elt F .bf16
  send : S2048x128.Idx → Elt F .bf16
  w1 : S4x1024x2048.Idx → Elt F .bf16
  w2 : S4x2048x1024.Idx → Elt F .bf16

variable (I : Dev nD → Inp F)

/-- What device `c` computes of its own tokens. -/
def own (c : Dev nD) : S2048x1024.Idx → Elt F .f32 := ownV (I c).x (I c).keep (I c).w1 (I c).w2
/-- What device `c` computes of its partner's tokens. -/
def part (c : Dev nD) : S2048x1024.Idx → Elt F .bf16 := partV (I (pr c)).x (I (pr c)).send (I c).w1 (I c).w2
/-- The result of device `c`. -/
def res (c : Dev nD) : S2048x1024.Idx → Elt F .f32 := sumV (own I c) (part I (pr c))

/-! ## The payloads -/

/-- A half of the tokens' buffer: the copy reads one, the first loop the other. -/
abbrev qS : PosShare TreeShare := PosShare.left fullShare
abbrev qK : PosShare TreeShare := PosShare.right fullShare

/-- With the barrier, the partner hands over its three landing buffers, and that its semaphores are open. -/
def barPay (c : Dev nD) : sProp 𝕄 :=
  iprop((∃ f, (Memref.whole cc0_scratch0).view.loc (pr c : Thread nD τ) ↦[(Memref.whole cc0_scratch0).view.set]{fullShare} f)
    ∗ (∃ f, (Memref.whole cc0_scratch1).view.loc (pr c : Thread nD τ) ↦[(Memref.whole cc0_scratch1).view.set]{fullShare} f)
    ∗ (∃ f, ((pr c : Thread nD τ).loc cc0_scratch3) ↦{fullShare} f)
    ∗ bigSep Finset.univ (fun k : Fin 20 => reached ER (dC (pr c) k) 0))

/-- With the sender's end of the tokens: the half that was lent. -/
def pay0 (c : Dev nD) : sProp 𝕄 :=
  (Memref.whole cc0_stg0_0).view.loc (c : Thread nD τ) ↦[(Memref.whole cc0_stg0_0).view.set]{qS} (I c).x
/-- With the receiver's end: the landing buffer, holding the partner's tokens. -/
def pay1 (c : Dev nD) : sProp 𝕄 :=
  (Memref.whole cc0_scratch0).view.loc (c : Thread nD τ) ↦[(Memref.whole cc0_scratch0).view.set]{fullShare} (I (pr c)).x
/-- With the sender's end of the mask: the mask. -/
def pay2 (c : Dev nD) : sProp 𝕄 :=
  (Memref.whole cc0_stg2_0).view.loc (c : Thread nD τ) ↦[(Memref.whole cc0_stg2_0).view.set]{fullShare} (I c).send
/-- With the receiver's end: the landing buffer, holding the partner's mask. -/
def pay3 (c : Dev nD) : sProp 𝕄 :=
  (Memref.whole cc0_scratch1).view.loc (c : Thread nD τ) ↦[(Memref.whole cc0_scratch1).view.set]{fullShare} (I (pr c)).send
/-- With the sender's end of block `i`: the block. -/
def payS (c : Dev nD) (i : Fin 8) : sProp 𝕄 :=
  ((c : Thread nD τ).loc cc0_scratch2) ↦[rowsOf i]{fullShare} part I c
/-- With the receiver's end: the block of the landing buffer, holding what the partner computed. -/
def payR (c : Dev nD) (i : Fin 8) : sProp 𝕄 :=
  ((c : Thread nD τ).loc cc0_scratch3) ↦[rowsOf i]{fullShare} part I (pr c)

/-- What comes with DMA semaphore `n`. -/
def dmaPay (c : Dev nD) (n : ℕ) : sProp 𝕄 :=
  if n = 6 then pay0 I c else if n = 7 then pay1 I c else if n = 8 then pay2 I c else if n = 9 then pay3 I c
  else if h : 10 ≤ n ∧ n < 18 then payS I c ⟨n - 10, by omega⟩
  else if h : 18 ≤ n ∧ n < 26 then payR I c ⟨n - 18, by omega⟩ else iprop(emp)

/-- What comes with a semaphore. -/
def payOf (c : Dev nD) (s : SemLoc sig) : sProp 𝕄 :=
  match s with
  | .reg _ => barPay c
  | .dma n => dmaPay I c n.val

/-- The units of a copy of the tokens, of a mask, of a block. -/
def Nx : ℕ := (Memref.whole cc0_scratch0 : Memref sig .tc .vmem S2048x1024 .bf16).view.dmaCredit
def Nm : ℕ := (Memref.whole cc0_scratch1 : Memref sig .tc .vmem S2048x128 .bf16).view.dmaCredit
def Nb : ℕ := ((Memref.whole cc0_scratch3 : Memref sig .tc .vmem S2048x1024 .bf16).slice (rowR 0) (fun _ => rfl)).view.dmaCredit

/-- A copy of the tokens has units. -/
theorem Nx_pos : 0 < Nx := View.dmaCredit_pos _ (by decide)
/-- A copy of a mask has units. -/
theorem Nm_pos : 0 < Nm := View.dmaCredit_pos _ (by decide)
/-- A copy of a block has units. -/
theorem Nb_pos : 0 < Nb := View.dmaCredit_pos _ (by decide)

/-- The units of a semaphore. -/
def amt (s : SemLoc sig) : ℕ :=
  match s with
  | .reg _ => 1
  | .dma n => if n.val < 8 then Nx else if n.val < 10 then Nm else Nb

/-- Every semaphore is paid some units. -/
theorem amt_pos (s : SemLoc sig) : 0 < amt s := by
  match s with
  | .reg _ => exact Nat.one_pos
  | .dma n =>
    show 0 < (if n.val < 8 then Nx else if n.val < 10 then Nm else Nb)
    split
    · exact Nx_pos
    · split
      · exact Nm_pos
      · exact Nb_pos

/-- The cells of the protocol. -/
abbrev IsTalk (g : GSem nD τ sig) : Prop := g.1.2 = .tc ∧ (g.2 = .reg barrier0 ∨ ∃ k, g.2 = osem k)

/-- Every cell has one round and one duty. -/
def rd : Rounds.Schedule (GSem nD τ sig) Unit 𝕄 where
  duties g r := if r = 0 ∧ IsTalk g then {()} else ∅
  unitless _ := False
  amount g _ _ := amt g.2
  payload g _ _ := payOf I g.1.1 g.2
  amount_pos g _ _ _ := amt_pos g.2

instance dmaPay_storable (c : Dev nD) (n : ℕ) : BI.Storable (upEmb : UEmb _ 𝕄) (dmaPay I c n) := by
  unfold dmaPay pay0 pay1 pay2 pay3 payS payR
  (repeat' split) <;> infer_instance

set_option synthInstance.maxHeartbeats 400000 in
instance barPay_storable (c : Dev nD) : BI.Storable (upEmb : UEmb _ 𝕄) (barPay (F := F) c) := by
  unfold barPay
  infer_instance

instance payOf_storable (c : Dev nD) (s : SemLoc sig) : BI.Storable (upEmb : UEmb _ 𝕄) (payOf I c s) := by
  match s with
  | .reg _ => exact barPay_storable c
  | .dma n => exact dmaPay_storable I c n.val

instance rd_payload_storable (g : GSem nD τ sig) (r : ℕ) (d : Unit) :
    BI.Storable (upEmb : UEmb _ 𝕄) ((rd I).payload g r d) := by
  show BI.Storable upEmb (payOf I g.1.1 g.2)
  exact payOf_storable I g.1.1 g.2

section Sched

variable (c : Dev nD)

/-- The barrier has one duty. -/
theorem duties_bar : (rd I).duties (barC c) 0 = {()} := by dsimp only [rd]; exact if_pos ⟨rfl, rfl, .inl rfl⟩
/-- Each copy semaphore has one duty. -/
theorem duties_d (k : Fin 20) : (rd I).duties (dC c k) 0 = {()} := by dsimp only [rd]; exact if_pos ⟨rfl, rfl, .inr ⟨k, rfl⟩⟩
/-- After the first round nothing is due. -/
theorem duties_later (g : GSem nD τ sig) : ∀ r, 1 ≤ r → (rd I).duties g r = ∅ :=
  fun r hr => by dsimp only [rd]; rw [if_neg (fun h => by omega)]

/-- The barrier expects one unit. -/
theorem expect_bar : (rd I).expect (barC c) 0 = 1 := by
  unfold Schedule.expect Schedule.amountOf; rw [duties_bar, Finset.sum_singleton]; rfl
/-- A copy semaphore expects its copy's units. -/
theorem expect_d (k : Fin 20) : (rd I).expect (dC c k) 0 = amt (osem k) := by
  unfold Schedule.expect Schedule.amountOf; rw [duties_d, Finset.sum_singleton]; rfl

/-- All that is still to come with the barrier is its payload. -/
theorem rest_bar : bigSep ((rd I).duties (barC c) 0 \ ∅) (fun u => (rd I).payload (barC c) 0 u) = barPay c := by
  rw [Finset.sdiff_empty, duties_bar, bigSep_singleton]; rfl
/-- All that is still to come with a copy semaphore is its payload. -/
theorem rest_d (k : Fin 20) : bigSep ((rd I).duties (dC c k) 0 \ ∅) (fun u => (rd I).payload (dC c k) 0 u) = dmaPay I c (6 + k.val) := by
  rw [Finset.sdiff_empty, duties_d, bigSep_singleton]; rfl

/-- What comes with a block's sending end. -/
theorem dmaPay_s (i : Fin 8) : dmaPay I c (6 + (sb i).val) = payS I c i := by
  fin_cases i <;> rfl
/-- What comes with a block's receiving end. -/
theorem dmaPay_r (i : Fin 8) : dmaPay I c (6 + (rb i).val) = payR I c i := by
  fin_cases i <;> rfl

end Sched

/-- The units of a block's sending end. -/
theorem amt_s (i : Fin 8) : amt (osem (sb i)) = Nb := by fin_cases i <;> rfl
/-- The units of a block's receiving end. -/
theorem amt_r (i : Fin 8) : amt (osem (rb i)) = Nb := by fin_cases i <;> rfl

/-! ## What a device owes -/

/-- The blocks from `n` on. -/
def todo (n : ℕ) : Finset (Fin 8) := Finset.univ.filter fun i => n ≤ i.val
/-- The blocks below `n`. -/
def done (n : ℕ) : Finset (Fin 8) := Finset.univ.filter fun i => i.val < n

/-- The blocks from `k` on are `k` and those after it. -/
theorem todo_step (k : Fin 8) : todo k.val = insert k (todo (k.val + 1)) := by
  ext i
  simp only [todo, Finset.mem_insert, Finset.mem_filter, Finset.mem_univ, true_and, Fin.ext_iff]
  omega
/-- Block `k` is not among those after it. -/
theorem todo_notMem (k : Fin 8) : k ∉ todo (k.val + 1) := by
  simp [todo]
/-- The blocks below the next are those below `k`, and `k`. -/
theorem done_step (k : Fin 8) : done (k.val + 1) = insert k (done k.val) := by
  ext i
  simp only [done, Finset.mem_insert, Finset.mem_filter, Finset.mem_univ, true_and, Fin.ext_iff]
  omega
/-- Block `k` is not below itself. -/
theorem done_notMem (k : Fin 8) : k ∉ done k.val := by
  simp [done]
/-- At the start all blocks are to do. -/
theorem todo_zero : todo 0 = Finset.univ := by decide
/-- At the end none is to do. -/
theorem todo_eight : todo 8 = ∅ := by decide
/-- At the start no block is done. -/
theorem done_zero : done 0 = ∅ := by decide
/-- At the end all are done. -/
theorem done_eight : done 8 = Finset.univ := by decide

/-- The blocks still owed to the partner. -/
def owedB (c : Dev nD) (n : ℕ) : CellTallies nD τ sig Unit := ∑ i ∈ todo n, tallyAt (dC (pr c) (rb i)) () Nb
/-- With the mask. -/
def owedM (c : Dev nD) : CellTallies nD τ sig Unit := owedB c 0 + tallyAt (dC (pr c) 3) () Nm
/-- With the tokens. -/
def owedX (c : Dev nD) : CellTallies nD τ sig Unit := owedM c + tallyAt (dC (pr c) 1) () Nx
/-- All that a device owes at the launch: the landings on its partner, and the partner's barrier. -/
def O₀ (c : Dev nD) : CellTallies nD τ sig Unit := owedX c + tallyAt (barC (pr c)) () 1

/-- Sending block `k` takes its units off the debt. -/
theorem owedB_step (c : Dev nD) (k : Fin 8) : owedB c k.val = owedB c (k.val + 1) + tallyAt (dC (pr c) (rb k)) () Nb := by
  unfold owedB
  rw [todo_step k, Finset.sum_insert (todo_notMem k), add_comm]
/-- After the last block nothing is owed. -/
theorem owedB_eight (c : Dev nD) : owedB c 8 = 0 := by
  unfold owedB; rw [todo_eight, Finset.sum_empty]

/-- Of the blocks' debt every cell is a receiving end on the partner. -/
theorem owedB_at (c : Dev nD) (n : ℕ) (g : GSem nD τ sig) (u : Unit) (h : 0 < owedB c n g u) : ∃ i, g = dC (pr c) (rb i) := by
  unfold owedB at h
  rw [Finset.sum_apply, Finsupp.finsetSum_apply] at h
  obtain ⟨i, -, hi⟩ := Finset.exists_ne_zero_of_sum_ne_zero (Nat.pos_iff_ne_zero.mp h)
  refine ⟨i, ?_⟩
  rw [tallyAt_apply] at hi
  by_contra hg
  rw [if_neg (fun hh => hg hh.1)] at hi
  exact hi rfl

/-- The cells of the debt after the barrier. -/
theorem owedX_at (c : Dev nD) (g : GSem nD τ sig) (u : Unit) (h : 0 < owedX c g u) :
    (∃ i, g = dC (pr c) (rb i)) ∨ g = dC (pr c) 3 ∨ g = dC (pr c) 1 := by
  unfold owedX owedM at h
  rw [Pi.add_apply, Finsupp.add_apply, Pi.add_apply, Finsupp.add_apply, tallyAt_apply, tallyAt_apply] at h
  by_cases h1 : g = dC (pr c) 1
  · exact .inr (.inr h1)
  · by_cases h3 : g = dC (pr c) 3
    · exact .inr (.inl h3)
    · rw [if_neg (fun hh => h3 hh.1), if_neg (fun hh => h1 hh.1)] at h
      exact .inl (owedB_at c 0 g u h)

def L (g : GSem nD τ sig) : Finset Unit := if g.1.2 = .tc then {()} else ∅
/-- The barrier is at 1, the landings of the first two copies at 2, those of the blocks at 3. -/
def lvS (s : SemLoc sig) : ℕ :=
  match s with
  | .reg _ => 1
  | .dma n => if n.val = 7 ∨ n.val = 9 then 2 else if 18 ≤ n.val then 3 else 0
def lv (g : GSem nD τ sig) (_ : Unit) : ℕ := lvS g.2

/-- Only the TensorCore has levels. -/
theorem L_of_ne (g : GSem nD τ sig) (h : g.1.2 ≠ .tc) : L g = ∅ := if_neg h
/-- Each of its semaphores has one. -/
theorem L_tc (c : Dev nD) (sm : SemLoc sig) : L ((c : Thread nD τ), sm) = {()} := if_pos rfl
/-- The level of a block's receiving end. -/
theorem lvS_r (i : Fin 8) : lvS (osem (rb i)) = 3 := by fin_cases i <;> rfl

/-- The wait at the barrier is allowed: every landing still owed is at a higher level. -/
theorem mayWait_bar (c : Dev nD) : (levAts L lv : sProp 𝕄) ⊢ MayWait (c : Thread nD τ) (.reg barrier0) () (owedX c) :=
  MayOwe.of_cut (L := L) (lev := lv) 1 (fun p hp => by rw [Finset.mem_singleton.mp hp, L_tc]; exact Finset.mem_singleton_self _)
    (fun g u hg => by
      obtain ⟨i, rfl⟩ | rfl | rfl := owedX_at c g u hg <;> (rw [L_tc]; exact Finset.mem_singleton_self _))
    (fun p hp => by rw [Finset.mem_singleton.mp hp]; exact le_refl 1)
    (fun g u hg => by
      obtain ⟨i, rfl⟩ | rfl | rfl := owedX_at c g u hg
      · show 1 < lvS (osem (rb i)); rw [lvS_r]; decide
      · show 1 < lvS (osem 3); decide
      · show 1 < lvS (osem 1); decide)

/-- A wait for one of the first two copies is allowed while blocks are owed. -/
theorem mayWait_d (c : Dev nD) (k : Fin 20) (hk : lvS (osem k) ≤ 2) (n : ℕ) :
    (levAts L lv : sProp 𝕄) ⊢ MayWait (c : Thread nD τ) (osem k) () (owedB c n) :=
  MayOwe.of_cut (L := L) (lev := lv) 2 (fun p hp => by rw [Finset.mem_singleton.mp hp, L_tc]; exact Finset.mem_singleton_self _)
    (fun g u hg => by
      obtain ⟨i, rfl⟩ := owedB_at c n g u hg; rw [L_tc]; exact Finset.mem_singleton_self _)
    (fun p hp => by rw [Finset.mem_singleton.mp hp]; exact hk)
    (fun g u hg => by
      obtain ⟨i, rfl⟩ := owedB_at c n g u hg
      show 2 < lvS (osem (rb i)); rw [lvS_r]; decide)

end Cert.KernelIdeal.Rows
-- ==== Proof.Trip2.lean ====
module

public import proofs.«01_k».proof.Proof.Protocol

/-!
One trip of the second loop: the part of the partner's tokens in one block of rows is computed,
stored, and sent.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One trip's body of the second loop, at the buffers the launch passes. -/
abbrev body2 (d0 : Dev nD) (v9 c0 c1 : BitVec 32) (k : Fin k0_t2_loop.trips) :
    Prog (TpuEff nD τ sig (Elt F) Λ₀ .tc) PUnit :=
  k0_t2_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 d0 v9 c0 c1 k PUnit.unit

abbrev 𝒱₀ : Variants := Variants.none

variable (I : Dev nD → Inp F) (c : Dev nD)

/-- The semaphore at a trip's sending end is the block's. -/
theorem semS_eq : ∀ k : Fin k0_t2_loop.trips,
    SemLoc.dma ((cc0_scratch5.slice (Rect.unit (s := S8) (k0_off11 k) S1.size (k0_off11_inb k))).squeeze S_ squeezes_S1_S_).sem = osem (sb (b2 k)) := by
  decide +kernel
/-- The semaphore at a trip's receiving end is the block's. -/
theorem semR_eq : ∀ k : Fin k0_t2_loop.trips,
    SemLoc.dma ((cc0_scratch6.slice (Rect.unit (s := S8) (k0_off11 k) S1.size (k0_off11_inb k))).squeeze S_ squeezes_S1_S_).sem = osem (rb (b2 k)) := by
  decide +kernel

/-- A block of the buffer of the parts, through its slice. -/
theorem slice2_set (k : Fin 8) {off : Fin 2 → Nat} (inb) (h : off = ![256 * k.val, 0]) :
    ((Memref.whole cc0_scratch2).view.slice (Rect.unit (s := S2048x1024) off S256x1024.size inb)).set = rowsOf k := by
  subst h
  exact (View.set_slice_whole _ _).trans (rowR_set k)

/-- A block of the landing buffer of the parts, through its slice. -/
theorem slice3_set (k : Fin 8) {off : Fin 2 → Nat} (inb) (h : off = ![256 * k.val, 0]) :
    ((Memref.whole cc0_scratch3).view.slice (Rect.unit (s := S2048x1024) off S256x1024.size inb)).set = rowsOf k := by
  subst h
  exact (View.set_slice_whole _ _).trans (rowR_set k)

/-- A block written in the buffer of the parts, at the block's elements. -/
theorem write2_at (k : Fin 8) {off : Fin 2 → Nat} (inb) (h : off = ![256 * k.val, 0]) (f : S2048x1024.Idx → Elt F .bf16)
    (w : Vec F S256x1024 .bf16) (i : S2048x1024.Idx) (hi : i ∈ rowsOf k) :
    ((Memref.whole cc0_scratch2).view.slice (Rect.unit (s := S2048x1024) off S256x1024.size inb)).write (Elt F) f w Finset.univ i = w (inBlock i) := by
  subst h
  have he : ((Memref.whole cc0_scratch2).view.slice (rowR k)).emb (inBlock i) = i :=
    (congrArg (fun k' => (rowR k').emb (inBlock i)) (blockOf_of_mem hi).symm).trans (emb_inBlock i)
  have h := View.write_emb_of_mem (v := (Memref.whole cc0_scratch2).view.slice (rowR k)) (Val := Elt F) (M := Finset.univ) f w (Finset.mem_univ (inBlock i))
  rw [he] at h
  exact h

/-- A block landed from the buffer of the parts, at the block's elements. -/
theorem land3_at (k : Fin 8) {off : Fin 2 → Nat} (inb) (h : off = ![256 * k.val, 0]) (f g : S2048x1024.Idx → Elt F .bf16)
    (i : S2048x1024.Idx) (hi : i ∈ rowsOf k) :
    ((Memref.whole cc0_scratch3).view.slice (Rect.unit (s := S2048x1024) off S256x1024.size inb)).write (Elt F) g
      (((Memref.whole cc0_scratch2).view.slice (Rect.unit (s := S2048x1024) off S256x1024.size inb)).read (Elt F) f) Finset.univ i = f i := by
  subst h
  have he : ((Memref.whole cc0_scratch3).view.slice (rowR k)).emb (inBlock i) = i :=
    (congrArg (fun k' => (rowR k').emb (inBlock i)) (blockOf_of_mem hi).symm).trans (emb_inBlock i)
  have h := View.write_emb_of_mem (v := (Memref.whole cc0_scratch3).view.slice (rowR k)) (Val := Elt F) (M := Finset.univ) g
    (((Memref.whole cc0_scratch2).view.slice (rowR k)).read (Elt F) f) (Finset.mem_univ (inBlock i))
  rw [he] at h
  refine h.trans ?_
  show f ((rowR k).emb (inBlock i)) = f i
  exact congrArg f he

/-- Contents equal on the elements held are the same hold. -/
theorem pts_congr {ℓ : Loc nD τ sig} {S : Finset (Idx ℓ)} {q : PosShare TreeShare} {f g : Buf (Elt F) ℓ} (h : ∀ i ∈ S, f i = g i) :
    (ℓ ↦[S]{q} f) ⊢@{sProp 𝕄} (ℓ ↦[S]{q} g) := Entails.of_eq (pointsTo_congr h)

/-- Equal sets of elements are the same hold. -/
theorem pts_set {ℓ : Loc nD τ sig} {S T : Finset (Idx ℓ)} {q : PosShare TreeShare} {f : Buf (Elt F) ℓ} (h : S = T) :
    (ℓ ↦[S]{q} f) ⊢@{sProp 𝕄} (ℓ ↦[T]{q} f) := by subst h; exact .rfl

set_option maxHeartbeats 1600000 in
/-- One trip of the second loop: the block of the partner's answers is computed and its copy is started, with the landing rows and the debt handed over. -/
theorem trip2 (κ₁ κ₂ : ℕ) (W : Waits sig Unit) (v9 c0 c1 : BitVec 32) (k : Fin k0_t2_loop.trips)
    (f : Buf (Elt F) ((c : Thread nD τ).loc cc0_scratch2)) (g : Buf (Elt F) ((pr c : Thread nD τ).loc cc0_scratch3)) :
    iprop(cellInv ER (rd I) κ₁ (dC c (sb (b2 k))) ∗ cellInv ER (rd I) κ₂ (dC (pr c) (rb (b2 k)))
      ∗ ((Memref.whole cc0_scratch0).view.loc (c : Thread nD τ) ↦[(Memref.whole cc0_scratch0).view.set]{fullShare} (I (pr c)).x)
      ∗ ((Memref.whole cc0_scratch1).view.loc (c : Thread nD τ) ↦[(Memref.whole cc0_scratch1).view.set]{fullShare} (I (pr c)).send)
      ∗ ((Memref.whole cc0_stg3_0).view.loc (c : Thread nD τ) ↦[(Memref.whole cc0_stg3_0).view.set]{fullShare} (I c).w1)
      ∗ ((Memref.whole cc0_stg4_0).view.loc (c : Thread nD τ) ↦[(Memref.whole cc0_stg4_0).view.set]{fullShare} (I c).w2)
      ∗ (((c : Thread nD τ).loc cc0_scratch2) ↦[rowsOf (b2 k)]{fullShare} f)
      ∗ (((pr c : Thread nD τ).loc cc0_scratch3) ↦[rowsOf (b2 k)]{fullShare} g)
      ∗ owes (c : Thread nD τ) (owedB c k.val) W
      ∗ dutyTok ER (dC c (sb (b2 k))) 0 () ∗ reached ER (dC c (sb (b2 k))) 0
      ∗ dutyTok ER (dC (pr c) (rb (b2 k))) 0 () ∗ reached ER (dC (pr c) (rb (b2 k))) 0)
    ⊢@{sProp 𝕄} wp frame (wpE (defs₀ (F := F)) 𝒱₀ (c : Thread nD τ) none) Set.univ (body2 (F := F) c v9 c0 c1 k)
      (fun _ => iprop(
        ((Memref.whole cc0_scratch0).view.loc (c : Thread nD τ) ↦[(Memref.whole cc0_scratch0).view.set]{fullShare} (I (pr c)).x)
        ∗ ((Memref.whole cc0_scratch1).view.loc (c : Thread nD τ) ↦[(Memref.whole cc0_scratch1).view.set]{fullShare} (I (pr c)).send)
        ∗ ((Memref.whole cc0_stg3_0).view.loc (c : Thread nD τ) ↦[(Memref.whole cc0_stg3_0).view.set]{fullShare} (I c).w1)
        ∗ ((Memref.whole cc0_stg4_0).view.loc (c : Thread nD τ) ↦[(Memref.whole cc0_stg4_0).view.set]{fullShare} (I c).w2)
        ∗ cred (tallyAt (dC c (sb (b2 k))) () Nb) ∗ owes (c : Thread nD τ) (owedB c (k.val + 1)) W)) := by
  unfold body2 k0_t2_body
  iintro ⟨#HI1, #HI2, H0, H1, H3, H4, H8, H9, HO, Ht1, #Hr1, Ht2, #Hr2⟩
  sl_exec
  iapply (wp_load_rect 𝒱₀ (c : Thread nD τ) none Set.univ (m := Memref.whole cc0_scratch2)
    (r := Rect.unit (s := S2048x1024) (k0_off6 k) S256x1024.size (k0_off6_inb k)) (S := rowsOf (b2 k))
    (slice2_set (b2 k) _ (k0_off6_eq k)).subset) $$ H8
  iintro H8
  simp only [Prog.lift, Prog.bind_op, Prog.bind_ret]
  iapply (wp_store 𝒱₀ (c : Thread nD τ) none Set.univ (m := Memref.whole cc0_scratch2)
    (r := Rect.unit (s := S2048x1024) (k0_off6 k) S256x1024.size (k0_off6_inb k)) (S := rowsOf (b2 k))
    ((View.setOn_univ _).trans (slice2_set (b2 k) _ (k0_off6_eq k))).subset) $$ H8
  iintro H8
  ihave H8 := (pts_congr (g := part I c) ?_) $$ H8
  · intro i hi
    refine (write2_at (b2 k) _ (k0_off6_eq k) _ _ i hi).trans ?_
    show _ = partBlk _ _ _ _ (blockOf i) (inBlock i)
    rw [blockOf_of_mem hi]
    unfold partBlk
    rw [← show _ = rowsRd (b2 k) (I (pr c)).x from read_off (k0_off6_inb k) _ (k0_off6_eq k) (I (pr c)).x,
      ← show _ = colRd (b2 k) 0 (I (pr c)).send from read_off (k0_off7_inb k) _ (k0_off7_eq k) (I (pr c)).send,
      ← show _ = colRd (b2 k) 1 (I (pr c)).send from read_off (k0_off8_inb k) _ (k0_off8_eq k) (I (pr c)).send,
      ← show _ = colRd (b2 k) 2 (I (pr c)).send from read_off (k0_off9_inb k) _ (k0_off9_eq k) (I (pr c)).send,
      ← show _ = colRd (b2 k) 3 (I (pr c)).send from read_off (k0_off10_inb k) _ (k0_off10_eq k) (I (pr c)).send]
    rfl
  sl_exec
  ihave H8 := (pts_set (slice2_set (b2 k) (k0_off12_inb k) (k0_off12_eq k)).symm) $$ H8
  ihave H9 := (pts_set (slice3_set (b2 k) (k0_off12_inb k) (k0_off12_eq k)).symm) $$ H9
  iapply (Rounds.wp_send_pointsTo 𝒱₀ ER (rd I) (c : Thread nD τ) none (c' := ((⟨k0_dev4 c, k0_dev4_lt c⟩ : Dev nD) : Thread nD τ))
      (src := (Memref.whole cc0_scratch2).slice (Rect.unit (s := S2048x1024) (k0_off12 k) S256x1024.size (k0_off12_inb k)) (fun _ => rfl))
      (dst := (Memref.whole cc0_scratch3).slice (Rect.unit (s := S2048x1024) (k0_off12 k) S256x1024.size (k0_off12_inb k)) (fun _ => rfl))
      (q := fullShare) (fs := part I c) (fd := g) (κ₁ := κ₁) (κ₂ := κ₂) (r₁ := 0) (r₂ := 0) (d₁ := ()) (d₂ := ())
      (by rw [semS_eq k, duties_d]; exact Finset.mem_singleton_self _)
      (by rw [semR_eq k, dev4_eq c, duties_d]; exact Finset.mem_singleton_self _)
      () () Nb rfl (by rw [semS_eq k]; exact amt_s (b2 k)) (by rw [semR_eq k, dev4_eq c]; exact amt_r (b2 k)) (owedB c (k.val + 1))
      (show owedB c k.val = _ by rw [semR_eq k, dev4_eq c]; exact owedB_step c (b2 k)) (W := W)
      (by
        rw [semS_eq k]
        refine BIBase.Entails.trans ?_ (Entails.of_eq (dmaPay_s I c (b2 k)).symm)
        exact pts_set (slice2_set (b2 k) (k0_off12_inb k) (k0_off12_eq k)))
      (by
        rw [semR_eq k, dev4_eq c]
        refine BIBase.Entails.trans ?_ (Entails.of_eq (dmaPay_r I (pr c) (b2 k)).symm)
        unfold payR
        rw [pr_pr]
        refine (pts_set (slice3_set (b2 k) (k0_off12_inb k) (k0_off12_eq k))).trans (pts_congr ?_)
        intro i hi
        exact land3_at (b2 k) (k0_off12_inb k) (k0_off12_eq k) _ _ i hi)) $$ [H8 H9 HO Ht1 Ht2]
  · rw [semS_eq k, semR_eq k, dev4_eq c]
    isplitr; · iexact HI1
    isplitr; · iexact HI2
    isplitl [H8]; · iexact H8
    isplitl [H9]; · iexact H9
    isplitl [HO]; · iexact HO
    isplitl [Ht1]; · iexact Ht1
    isplitr; · iexact Hr1
    isplitl [Ht2]; · iexact Ht2
    iexact Hr2
  rw [semS_eq k]
  iintro ⟨HcS, HO⟩
  sl_step
  isplitl [H0]; iexact H0
  isplitl [H1]; iexact H1
  isplitl [H3]; iexact H3
  isplitl [H4]; iexact H4
  isplitl [HcS]; iexact HcS
  iexact HO

end Cert.KernelIdeal.Rows
-- ==== Proof.Trip3.lean ====
module

public import proofs.«01_k».proof.Proof.Trip2

/-!
One trip of the third loop: the block that the partner computed is waited for, and added to the result.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One trip's body of the third loop, at the buffers the launch passes. -/
abbrev body3 (k : Fin k0_t3_loop.trips) : Prog (TpuEff nD τ sig (Elt F) Λ₀ .tc) PUnit :=
  k0_t3_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 k PUnit.unit

variable (I : Dev nD → Inp F) (c : Dev nD)

/-- The semaphore that a trip of the third loop waits on for the sending end. -/
theorem semS3_eq : ∀ k : Fin k0_t3_loop.trips,
    SemLoc.dma ((cc0_scratch5.slice (Rect.unit (s := S8) (k0_off13 k) S1.size (k0_off13_inb k))).squeeze S_ squeezes_S1_S_).sem = osem (sb (b3 k)) := by
  decide +kernel
/-- The semaphore that it waits on for the receiving end. -/
theorem semR3_eq : ∀ k : Fin k0_t3_loop.trips,
    SemLoc.dma ((cc0_scratch6.slice (Rect.unit (s := S8) (k0_off13 k) S1.size (k0_off13_inb k))).squeeze S_ squeezes_S1_S_).sem = osem (rb (b3 k)) := by
  decide +kernel

/-- A cell whose one round is over gives its counter back at zero. -/
theorem close (κ : ℕ) (g : GSem nD τ sig) :
    iprop(cellInv ER (rd I) κ g ∗ atPos ER g (0 + 1) ∅ 0) ⊢ (|={Set.univ}=> semVal g 0 : sProp 𝕄) :=
  Rounds.cell_close ER (rd I) (Set.mem_univ κ) id (duties_later I g)

/-- What a trip stores, of what it loads. -/
theorem added_eq (k : Fin 8) {off : Fin 2 → Nat} (inb) (h : off = ![256 * k.val, 0]) (f : S2048x1024.Idx → Elt F .f32)
    (g : S2048x1024.Idx → Elt F .bf16) :
    k0_pay1 (View.readAt (Elt F) (Memref.whole cc0_stg5_0).view (Rect.unit (s := S2048x1024) off S256x1024.size inb).toLoadRect f)
      (View.read (Elt F) ((Memref.whole cc0_scratch3).access (Rect.unit (s := S2048x1024) off S256x1024.size inb)) g)
    = k0_pay1 (rowsRd k f) (rowsRd k g) := by
  subst h; rfl

set_option maxHeartbeats 1600000 in
/-- One trip of the third loop: both ends of block `k`'s copies are waited for, and the block received is added. -/
theorem trip3 (κ₁ κ₂ : ℕ) (W : Waits sig Unit) (k : Fin k0_t3_loop.trips) (f : S2048x1024.Idx → Elt F .f32) :
    iprop(cellInv ER (rd I) κ₁ (dC c (sb (b3 k))) ∗ cellInv ER (rd I) κ₂ (dC c (rb (b3 k)))
      ∗ ((Memref.whole cc0_stg5_0).view.loc (c : Thread nD τ) ↦[(Memref.whole cc0_stg5_0).view.set]{fullShare} f)
      ∗ owes (c : Thread nD τ) (0 : CellTallies nD τ sig Unit) W
      ∗ cred (tallyAt (dC c (sb (b3 k))) () Nb) ∗ cred (tallyAt (dC c (rb (b3 k))) () Nb)
      ∗ atPos ER (dC c (sb (b3 k))) 0 ∅ 0 ∗ atPos ER (dC c (rb (b3 k))) 0 ∅ 0)
    ⊢@{sProp 𝕄} wp frame (wpE (defs₀ (F := F)) 𝒱₀ (c : Thread nD τ) none) Set.univ (body3 (F := F) k)
      (fun _ => iprop(
        ((Memref.whole cc0_stg5_0).view.loc (c : Thread nD τ) ↦[(Memref.whole cc0_stg5_0).view.set]{fullShare}
            putRows (b3 k) f (k0_pay1 (rowsRd (b3 k) f) (rowsRd (b3 k) (part I (pr c)))))
        ∗ payS I c (b3 k) ∗ payR I c (b3 k) ∗ semVal (dC c (sb (b3 k))) 0 ∗ semVal (dC c (rb (b3 k))) 0
        ∗ ∃ W, owes (c : Thread nD τ) (0 : CellTallies nD τ sig Unit) W)) := by
  unfold body3 k0_t3_body
  simp -proj only [Prog.lift, Prog.bind_op, Prog.bind_ret]
  iintro ⟨#HI1, #HI2, H5, HO, Hc1, Hc2, Ha1, Ha2⟩
  iapply (Rounds.wp_wait_rest_token 𝒱₀ ER (rd I) (c : Thread nD τ) none (κ := κ₁)
      (wpE_waitDma2_eq 𝒱₀ (c : Thread nD τ) none Set.univ) (Set.mem_univ _) () (O := 0) (W := W) (R := 0) (m := 0) (T := ∅)
      (by rw [semS3_eq k]; exact (Nat.zero_add _).trans ((expect_d I c (sb (b3 k))).trans (amt_s (b3 k))).symm)) $$ [Hc1 HO Ha1]
  · rw [semS3_eq k]
    isplitr; · iexact HI1
    isplitl [Hc1]; · iexact Hc1
    isplitl [HO]; · iexact HO
    isplitr; · rw [MayWait_zero]; iempintro
    iexact Ha1
  rw [semS3_eq k]
  iintro ⟨HO, Ha1, -, Hp1⟩
  ihave Hp1 := (Entails.of_eq ((rest_d I c (sb (b3 k))).trans (dmaPay_s I c (b3 k)))) $$ Hp1
  iapply (Rounds.wp_wait_rest_token 𝒱₀ ER (rd I) (c : Thread nD τ) none (κ := κ₂)
      (wpE_waitDma2_eq 𝒱₀ (c : Thread nD τ) none Set.univ) (Set.mem_univ _) () (O := 0) (R := 0) (m := 0) (T := ∅)
      (by rw [semR3_eq k]; exact (Nat.zero_add _).trans ((expect_d I c (rb (b3 k))).trans (amt_r (b3 k))).symm)) $$ [Hc2 HO Ha2]
  · rw [semR3_eq k]
    isplitr; · iexact HI2
    isplitl [Hc2]; · iexact Hc2
    isplitl [HO]; · iexact HO
    isplitr; · rw [MayWait_zero]; iempintro
    iexact Ha2
  rw [semR3_eq k]
  iintro ⟨HO, Ha2, -, Hp2⟩
  ihave Hp2 := (Entails.of_eq ((rest_d I c (rb (b3 k))).trans (dmaPay_r I c (b3 k)))) $$ Hp2
  sl_exec
  unfold payR
  iapply (wp_load_rect 𝒱₀ (c : Thread nD τ) none Set.univ (m := Memref.whole cc0_scratch3)
    (r := Rect.unit (s := S2048x1024) (k0_off15 k) S256x1024.size (k0_off15_inb k)) (S := rowsOf (b3 k))
    (slice3_set (b3 k) _ (k0_off15_eq k)).subset) $$ Hp2
  iintro Hp2
  sl_exec
  imod (close I κ₁ (dC c (sb (b3 k)))) $$ [Ha1] with Hv1
  · isplitr; · iexact HI1
    iexact Ha1
  imod (close I κ₂ (dC c (rb (b3 k)))) $$ [Ha2] with Hv2
  · isplitr; · iexact HI2
    iexact Ha2
  ihave H5 := (pts_eq (g := putRows (b3 k) f (k0_pay1 (rowsRd (b3 k) f) (rowsRd (b3 k) (part I (pr c)))))
    (put_off (b3 k) (k0_off15_inb k) (k0_off15_eq k) _ _ _ (added_eq (b3 k) (k0_off15_inb k) (k0_off15_eq k) f (part I (pr c))))) $$ H5
  sl_step
  isplitl [H5]; iexact H5
  isplitl [Hp1]; iexact Hp1
  isplitl [Hp2]; iexact Hp2
  isplitl [Hv1]; iexact Hv1
  isplitl [Hv2]; iexact Hv2
  iexists _; iexact HO

end Cert.KernelIdeal.Rows
-- ==== Proof.Loops.lean ====
module

public import proofs.«01_k».proof.Proof.Trip3

/-!
The three loops of the kernel, each from its state before the first trip to its state after the last.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers, held whole -/

variable (c : Dev nD)

/-- The tokens' buffer. -/
abbrev hX (q : PosShare TreeShare) (f : S2048x1024.Idx → Elt F .bf16) : sProp 𝕄 :=
  (Memref.whole cc0_stg0_0).view.loc (c : Thread nD τ) ↦[(Memref.whole cc0_stg0_0).view.set]{q} f
/-- The mask of the own experts. -/
abbrev hK (f : S2048x128.Idx → Elt F .bf16) : sProp 𝕄 :=
  (Memref.whole cc0_stg1_0).view.loc (c : Thread nD τ) ↦[(Memref.whole cc0_stg1_0).view.set]{fullShare} f
/-- The mask of the partner's experts. -/
abbrev hN (f : S2048x128.Idx → Elt F .bf16) : sProp 𝕄 :=
  (Memref.whole cc0_stg2_0).view.loc (c : Thread nD τ) ↦[(Memref.whole cc0_stg2_0).view.set]{fullShare} f
/-- The first weights. -/
abbrev hW1 (f : S4x1024x2048.Idx → Elt F .bf16) : sProp 𝕄 :=
  (Memref.whole cc0_stg3_0).view.loc (c : Thread nD τ) ↦[(Memref.whole cc0_stg3_0).view.set]{fullShare} f
/-- The second weights. -/
abbrev hW2 (f : S4x2048x1024.Idx → Elt F .bf16) : sProp 𝕄 :=
  (Memref.whole cc0_stg4_0).view.loc (c : Thread nD τ) ↦[(Memref.whole cc0_stg4_0).view.set]{fullShare} f
/-- The result's buffer. -/
abbrev hO (f : S2048x1024.Idx → Elt F .f32) : sProp 𝕄 :=
  (Memref.whole cc0_stg5_0).view.loc (c : Thread nD τ) ↦[(Memref.whole cc0_stg5_0).view.set]{fullShare} f
/-- The buffer where the partner's tokens land. -/
abbrev hXP (f : S2048x1024.Idx → Elt F .bf16) : sProp 𝕄 :=
  (Memref.whole cc0_scratch0).view.loc (c : Thread nD τ) ↦[(Memref.whole cc0_scratch0).view.set]{fullShare} f
/-- The buffer where the partner's mask lands. -/
abbrev hNP (f : S2048x128.Idx → Elt F .bf16) : sProp 𝕄 :=
  (Memref.whole cc0_scratch1).view.loc (c : Thread nD τ) ↦[(Memref.whole cc0_scratch1).view.set]{fullShare} f
/-- Rows of the buffer of the parts sent. -/
abbrev hP (S : Finset S2048x1024.Idx) (f : S2048x1024.Idx → Elt F .bf16) : sProp 𝕄 :=
  ((c : Thread nD τ).loc cc0_scratch2) ↦[S]{fullShare} f
/-- Rows of the buffer where the parts land. -/
abbrev hR (S : Finset S2048x1024.Idx) (f : S2048x1024.Idx → Elt F .bf16) : sProp 𝕄 :=
  ((c : Thread nD τ).loc cc0_scratch3) ↦[S]{fullShare} f

/-- Block `n` of the buffer of the parts is taken out of the rows from `n` on. -/
theorem hP_take (k : Fin 8) {n : ℕ} (h : k.val = n) (f : S2048x1024.Idx → Elt F .bf16) :
    hP c (rowsFrom n) f ⊢ iprop(hP c (rowsOf k) f ∗ hP c (rowsFrom (n + 1)) f) := by
  subst h; unfold hP; rw [rowsFrom_split k]; exact (pointsTo_union (rowsFrom_disj k)).1
/-- Block `n` of the landing buffer is taken out of the rows from `n` on. -/
theorem hR_take (k : Fin 8) {n : ℕ} (h : k.val = n) (f : S2048x1024.Idx → Elt F .bf16) :
    hR c (rowsFrom n) f ⊢ iprop(hR c (rowsOf k) f ∗ hR c (rowsFrom (n + 1)) f) := by
  subst h; unfold hR; rw [rowsFrom_split k]; exact (pointsTo_union (rowsFrom_disj k)).1
/-- Block `n` of the buffer of the parts is put back to the rows below it. -/
theorem hP_put (k : Fin 8) {n : ℕ} (h : k.val = n) (f : S2048x1024.Idx → Elt F .bf16) :
    iprop(hP c (rowsBelow n) f ∗ hP c (rowsOf k) f) ⊢ hP c (rowsBelow (n + 1)) f := by
  subst h; unfold hP; rw [rowsBelow_succ k]; exact (pointsTo_union (rowsBelow_disj k)).2
/-- Block `n` of the landing buffer is put back to the rows below it. -/
theorem hR_put (k : Fin 8) {n : ℕ} (h : k.val = n) (f : S2048x1024.Idx → Elt F .bf16) :
    iprop(hR c (rowsBelow n) f ∗ hR c (rowsOf k) f) ⊢ hR c (rowsBelow (n + 1)) f := by
  subst h; unfold hR; rw [rowsBelow_succ k]; exact (pointsTo_union (rowsBelow_disj k)).2

/-- The share of block `n` is taken from what is to do. -/
theorem todo_take (k : Fin 8) {n : ℕ} (h : k.val = n) (Φ : Fin 8 → sProp 𝕄) :
    bigSep (todo n) Φ ⊢ iprop(Φ k ∗ bigSep (todo (n + 1)) Φ) := by
  subst h; rw [todo_step k, BI.bigSep_insert (todo_notMem k)]; exact .rfl
/-- The share of block `n` is put to what is done. -/
theorem done_put (k : Fin 8) {n : ℕ} (h : k.val = n) (Φ : Fin 8 → sProp 𝕄) :
    iprop(Φ k ∗ bigSep (done n) Φ) ⊢ bigSep (done (n + 1)) Φ := by
  subst h; rw [done_step k, BI.bigSep_insert (done_notMem k)]; exact .rfl

/-! ## Contents half done -/

/-- `A` on the first `n` blocks of rows, `B` on the others. -/
def mix {e : EltTy} (n : ℕ) (A B : S2048x1024.Idx → Elt F e) : S2048x1024.Idx → Elt F e :=
  fun i => if (blockOf i).val < n then A i else B i

/-- At the start the second contents stand everywhere. -/
theorem mix_zero {e : EltTy} (A B : S2048x1024.Idx → Elt F e) : mix 0 A B = B :=
  funext fun i => if_neg (Nat.not_lt_zero _)
/-- At the end the first contents stand everywhere. -/
theorem mix_eight {e : EltTy} (A B : S2048x1024.Idx → Elt F e) : mix 8 A B = A :=
  funext fun i => if_pos (blockOf i).isLt
/-- Replacing block `k` by the first contents' rows carries the half-done contents on. -/
theorem mix_step {e : EltTy} (k : Fin 8) (A B : S2048x1024.Idx → Elt F e) (w : Vec F S256x1024 e)
    (h : ∀ i, blockOf i = k → w (inBlock i) = A i) : putRows k (mix k.val A B) w = mix (k.val + 1) A B := by
  funext i
  by_cases hi : blockOf i = k
  · rw [putRows_block k _ w i hi, h i hi]
    exact (if_pos (by rw [hi]; exact Nat.lt_succ_self _)).symm
  · rw [putRows_other k _ w i hi]
    have hne : (blockOf i).val ≠ k.val := fun h => hi (Fin.ext h)
    unfold mix
    by_cases hl : (blockOf i).val < k.val
    · rw [if_pos hl, if_pos (by omega)]
    · rw [if_neg hl, if_neg (by omega)]

variable (I : Dev nD → Inp F)

/-- The first loop has eight trips. -/
theorem trips1_eq : k0_t1_loop.trips = 8 := by decide +kernel
/-- The second loop has eight trips. -/
theorem trips2_eq : k0_t2_loop.trips = 8 := by decide +kernel
/-- The third loop has eight trips. -/
theorem trips3_eq : k0_t3_loop.trips = 8 := by decide +kernel

/-! ## The first loop -/

/-- The first loop before trip `n`: its blocks below `n` hold what the device computes of its own tokens. -/
def I1 (f : S2048x1024.Idx → Elt F .f32) (n : ℕ) : sProp 𝕄 :=
  iprop(hX c qK (I c).x ∗ hK c (I c).keep ∗ hW1 c (I c).w1 ∗ hW2 c (I c).w2 ∗ hO c (mix n (own I c) f))

/-- The first loop, from any contents of the result's buffer. -/
theorem loop1 (f : S2048x1024.Idx → Elt F .f32) (d0 : Dev nD) (v5 v8 v9 v30 : BitVec 32) (Q : Unit → sProp 𝕄) :
    iprop(I1 c I f 0 ∗ (I1 c I f 8 -∗ Q ⟨⟩))
      ⊢ wp frame (wpE (defs₀ (F := F)) 𝒱₀ (c : Thread nD τ) none) Set.univ
        (Scf.Loop.for k0_t1_loop k0_t1_ok ⟨⟩ (fun k _ => body1 (F := F) d0 v5 v8 v9 v30 k)) Q := by
  iintro ⟨H, HQ⟩
  iapply (Scf.wp_for _ _ _ _ _ _ k0_t1_ok ⟨⟩ (fun k _ => body1 (F := F) d0 v5 v8 v9 v30 k) (fun n _ => I1 c I f n) (fun k acc => ?_))
  · refine BIBase.Entails.trans ?_ (BIBase.Entails.trans (trip1 𝒱₀ c d0 v5 v8 v9 v30 k qK (I c).x (I c).keep (I c).w1 (I c).w2 (mix k.val (own I c) f)) (wp_mono _ _ _ fun _ => ?_))
    · unfold I1; exact .rfl
    · unfold I1
      rw [show putRows (b1 k) (mix k.val (own I c) f) (ownBlk (I c).x (I c).keep (I c).w1 (I c).w2 (b1 k)) = mix (k.val + 1) (own I c) f
        from mix_step (b1 k) (own I c) f _ (fun i hi => by rw [← hi]; rfl)]
  isplitl [H]; · iexact H
  iintro %acc H
  iapply HQ
  rw [show Scf.trips _ _ _ = 8 from trips1_eq]
  iexact H

/-! ## What every device may consult -/

/-- The invariants of all the DMA cells, at the names `K`. -/
def invD (K : GSem nD τ sig → ℕ) : sProp 𝕄 :=
  bigSep (Finset.univ : Finset (Dev nD × Fin 20)) fun p => cellInv ER (rd I) (K (dC p.1 p.2)) (dC p.1 p.2)
/-- The DMA cells of device `c` are open. -/
def openD : sProp 𝕄 := bigSep (Finset.univ : Finset (Fin 20)) fun k => reached ER (dC c k) 0

instance invD_persistent (K : GSem nD τ sig → ℕ) : BI.Persistent (invD I K) := by unfold invD; infer_instance
instance openD_persistent : BI.Persistent (openD (F := F) c) := by unfold openD; infer_instance

/-- The invariant of one of the device's copy semaphores. -/
theorem invD_at (K : GSem nD τ sig → ℕ) (k : Fin 20) : invD I K ⊢ cellInv ER (rd I) (K (dC c k)) (dC c k) :=
  BI.bigSep_elim (Φ := fun p : Dev nD × Fin 20 => cellInv ER (rd I) (K (dC p.1 p.2)) (dC p.1 p.2)) (Finset.mem_univ (c, k))
/-- One of them has been opened. -/
theorem openD_at (k : Fin 20) : openD (F := F) c ⊢ reached ER (dC c k) 0 :=
  BI.bigSep_elim (Φ := fun k : Fin 20 => reached ER (dC c k) 0) (Finset.mem_univ k)

/-! ## The second loop -/

/-- The tokens with which the copy of block `i` is paid for. -/
def tokB (i : Fin 8) : sProp 𝕄 := iprop(dutyTok ER (dC c (sb i)) 0 () ∗ dutyTok ER (dC (pr c) (rb i)) 0 ())

/-- The second loop before trip `n`: the blocks below `n` are on their way. -/
def I2 (K : GSem nD τ sig → ℕ) (W : Waits sig Unit) (f g : S2048x1024.Idx → Elt F .bf16) (n : ℕ) : sProp 𝕄 :=
  iprop(invD I K ∗ openD (F := F) c ∗ openD (F := F) (pr c)
    ∗ hXP c (I (pr c)).x ∗ hNP c (I (pr c)).send ∗ hW1 c (I c).w1 ∗ hW2 c (I c).w2
    ∗ hP c (rowsFrom n) f ∗ hR (pr c) (rowsFrom n) g ∗ owes (c : Thread nD τ) (owedB c n) W
    ∗ bigSep (todo n) (tokB (F := F) c)
    ∗ bigSep (done n) (fun i => cred (tallyAt (dC c (sb i)) () Nb)))

/-- A trip of the second loop. -/
theorem step2 (K : GSem nD τ sig → ℕ) (W : Waits sig Unit) (f g : S2048x1024.Idx → Elt F .bf16) (v9 c0 c1 : BitVec 32)
    (k : Fin k0_t2_loop.trips) :
    I2 c I K W f g k.val ⊢ wp frame (wpE (defs₀ (F := F)) 𝒱₀ (c : Thread nD τ) none) Set.univ
      (body2 (F := F) c v9 c0 c1 k) (fun _ => I2 c I K W f g (k.val + 1)) := by
  unfold I2
  iintro ⟨#HI, #Ho, #HoP, H0, H1, H3, H4, H8, H9, HO, Ht, Hc⟩
  ihave H8 := (hP_take c (b2 k) (n := k.val) rfl f) $$ H8
  icases H8 with ⟨H8, H8'⟩
  ihave H9 := (hR_take (pr c) (b2 k) (n := k.val) rfl g) $$ H9
  icases H9 with ⟨H9, H9'⟩
  ihave Ht := (todo_take (b2 k) (n := k.val) rfl (tokB (F := F) c)) $$ Ht
  icases Ht with ⟨Ht, Ht'⟩
  unfold tokB
  icases Ht with ⟨Ht1, Ht2⟩
  iapply (wp_wand_r _ _ _)
  isplitl [H0 H1 H3 H4 H8 H9 HO Ht1 Ht2]
  · iapply (trip2 I c (K (dC c (sb (b2 k)))) (K (dC (pr c) (rb (b2 k)))) W v9 c0 c1 k f g)
    isplitr; · iapply (invD_at c I K (sb (b2 k))); iexact HI
    isplitr; · iapply (invD_at (pr c) I K (rb (b2 k))); iexact HI
    isplitl [H0]; · iexact H0
    isplitl [H1]; · iexact H1
    isplitl [H3]; · iexact H3
    isplitl [H4]; · iexact H4
    isplitl [H8]; · iexact H8
    isplitl [H9]; · iexact H9
    isplitl [HO]; · iexact HO
    isplitl [Ht1]; · iexact Ht1
    isplitr; · iapply (openD_at (F := F) c (sb (b2 k))); iexact Ho
    isplitl [Ht2]; · iexact Ht2
    iapply (openD_at (F := F) (pr c) (rb (b2 k))); iexact HoP
  iintro %u ⟨H0, H1, H3, H4, Hc1, HO⟩
  isplitr; · iexact HI
  isplitr; · iexact Ho
  isplitr; · iexact HoP
  isplitl [H0]; · iexact H0
  isplitl [H1]; · iexact H1
  isplitl [H3]; · iexact H3
  isplitl [H4]; · iexact H4
  isplitl [H8']; · iexact H8'
  isplitl [H9']; · iexact H9'
  isplitl [HO]; · iexact HO
  isplitl [Ht']; · iexact Ht'
  iapply (done_put (b2 k) (n := k.val) rfl (fun i => cred (tallyAt (dC c (sb i)) () Nb)))
  isplitl [Hc1]; · iexact Hc1
  iexact Hc

/-- The second loop. -/
theorem loop2 (K : GSem nD τ sig → ℕ) (W : Waits sig Unit) (f g : S2048x1024.Idx → Elt F .bf16) (v9 c0 c1 : BitVec 32) (Q : Unit → sProp 𝕄) :
    iprop(I2 c I K W f g 0 ∗ (I2 c I K W f g 8 -∗ Q ⟨⟩))
      ⊢ wp frame (wpE (defs₀ (F := F)) 𝒱₀ (c : Thread nD τ) none) Set.univ
        (Scf.Loop.for k0_t2_loop k0_t2_ok ⟨⟩ (fun k _ => body2 (F := F) c v9 c0 c1 k)) Q := by
  iintro ⟨H, HQ⟩
  iapply (Scf.wp_for _ _ _ _ _ _ k0_t2_ok ⟨⟩ (fun k _ => body2 (F := F) c v9 c0 c1 k) (fun n _ => I2 c I K W f g n) (fun k acc => step2 c I K W f g v9 c0 c1 k))
  isplitl [H]; · iexact H
  iintro %acc H
  iapply HQ
  rw [show Scf.trips _ _ _ = 8 from trips2_eq]
  iexact H

/-! ## The third loop -/

/-- The credits and the positions with which the two ends of block `i` are waited for. -/
def posB (i : Fin 8) : sProp 𝕄 :=
  iprop(cred (tallyAt (dC c (sb i)) () Nb) ∗ cred (tallyAt (dC c (rb i)) () Nb)
    ∗ atPos ER (dC c (sb i)) 0 ∅ 0 ∗ atPos ER (dC c (rb i)) 0 ∅ 0)
/-- The counters of the two ends of block `i`, at zero. -/
def endB (i : Fin 8) : sProp 𝕄 := iprop(semVal (dC c (sb i)) 0 ∗ semVal (dC c (rb i)) 0)

/-- The third loop before trip `n`: the blocks below `n` hold the result. -/
def I3 (K : GSem nD τ sig → ℕ) (n : ℕ) : sProp 𝕄 :=
  iprop(invD I K ∗ hO c (mix n (res I c) (own I c)) ∗ hP c (rowsBelow n) (part I c) ∗ hR c (rowsBelow n) (part I (pr c))
    ∗ bigSep (todo n) (posB (F := F) c) ∗ bigSep (done n) (endB (F := F) c)
    ∗ ∃ W, owes (c : Thread nD τ) (0 : CellTallies nD τ sig Unit) W)

/-- Adding the partner's block to the device's own gives that block of the result. -/
theorem mix_added (k : Fin 8) :
    putRows k (mix k.val (res I c) (own I c))
      (k0_pay1 (rowsRd k (mix k.val (res I c) (own I c))) (rowsRd k (part I (pr c)))) = mix (k.val + 1) (res I c) (own I c) := by
  refine mix_step k _ _ _ (fun i hi => ?_)
  have h : rowsRd k (mix k.val (res I c) (own I c)) = rowsRd k (own I c) := by
    funext j
    show mix k.val (res I c) (own I c) ((rowR k).emb j) = own I c ((rowR k).emb j)
    unfold mix
    rw [blockOf_emb, if_neg (Nat.lt_irrefl _)]
  rw [h, ← hi]
  rfl

/-- A trip of the third loop. -/
theorem step3 (K : GSem nD τ sig → ℕ) (k : Fin k0_t3_loop.trips) :
    I3 c I K k.val ⊢ wp frame (wpE (defs₀ (F := F)) 𝒱₀ (c : Thread nD τ) none) Set.univ
      (body3 (F := F) k) (fun _ => I3 c I K (k.val + 1)) := by
  unfold I3
  iintro ⟨#HI, H5, H8, H9, Hp, He, ⟨%W, HO⟩⟩
  ihave Hp := (todo_take (b3 k) (n := k.val) rfl (posB (F := F) c)) $$ Hp
  icases Hp with ⟨Hp, Hp'⟩
  unfold posB
  icases Hp with ⟨Hc1, Hc2, Ha1, Ha2⟩
  iapply (wp_wand_r _ _ _)
  isplitl [H5 HO Hc1 Hc2 Ha1 Ha2]
  · iapply (trip3 I c (K (dC c (sb (b3 k)))) (K (dC c (rb (b3 k)))) W k (mix k.val (res I c) (own I c)))
    isplitr; · iapply (invD_at c I K (sb (b3 k))); iexact HI
    isplitr; · iapply (invD_at c I K (rb (b3 k))); iexact HI
    isplitl [H5]; · iexact H5
    isplitl [HO]; · iexact HO
    isplitl [Hc1]; · iexact Hc1
    isplitl [Hc2]; · iexact Hc2
    isplitl [Ha1]; · iexact Ha1
    iexact Ha2
  rw [show putRows (b3 k) (mix k.val (res I c) (own I c))
      (k0_pay1 (rowsRd (b3 k) (mix k.val (res I c) (own I c))) (rowsRd (b3 k) (part I (pr c)))) = mix (k.val + 1) (res I c) (own I c)
    from mix_added c I (b3 k)]
  unfold payS payR
  iintro %u ⟨H5, Hs, Hr, Hv1, Hv2, HO⟩
  isplitr; · iexact HI
  isplitl [H5]; · iexact H5
  isplitl [H8 Hs]
  · iapply (hP_put c (b3 k) (n := k.val) rfl (part I c)); isplitl [H8]; · iexact H8
    iexact Hs
  isplitl [H9 Hr]
  · iapply (hR_put c (b3 k) (n := k.val) rfl (part I (pr c))); isplitl [H9]; · iexact H9
    iexact Hr
  isplitl [Hp']; · iexact Hp'
  isplitl [He Hv1 Hv2]
  · iapply (done_put (b3 k) (n := k.val) rfl (endB (F := F) c)); isplitl [Hv1 Hv2]
    · unfold endB; isplitl [Hv1]; · iexact Hv1
      iexact Hv2
    iexact He
  iexact HO

/-- The third loop. -/
theorem loop3 (K : GSem nD τ sig → ℕ) (Q : Unit → sProp 𝕄) :
    iprop(I3 c I K 0 ∗ (I3 c I K 8 -∗ Q ⟨⟩))
      ⊢ wp frame (wpE (defs₀ (F := F)) 𝒱₀ (c : Thread nD τ) none) Set.univ
        (Scf.Loop.for k0_t3_loop k0_t3_ok ⟨⟩ (fun k _ => body3 (F := F) k)) Q := by
  iintro ⟨H, HQ⟩
  iapply (Scf.wp_for _ _ _ _ _ _ k0_t3_ok ⟨⟩ (fun k _ => body3 (F := F) k) (fun n _ => I3 c I K n) (fun k acc => step3 c I K k))
  isplitl [H]; · iexact H
  iintro %acc H
  iapply HQ
  rw [show Scf.trips _ _ _ = 8 from trips3_eq]
  iexact H

end Cert.KernelIdeal.Rows
-- ==== Proof.Tail.lean ====
module

public import proofs.«01_k».proof.Proof.Loops

/-!
The last two loops at one device.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inp F) (c : Dev nD)

/-- With every block sent, the credits of the senders' ends join what the third loop waits with. -/
theorem pos_join :
    iprop(bigSep Finset.univ (fun i => iprop(cred (tallyAt (dC c (rb i)) () Nb) ∗ atPos ER (dC c (sb i)) 0 ∅ 0 ∗ atPos ER (dC c (rb i)) 0 ∅ 0))
      ∗ bigSep Finset.univ (fun i => cred (tallyAt (dC c (sb i)) () Nb)))
    ⊢@{sProp 𝕄} bigSep Finset.univ (posB (F := F) c) := by
  rw [← BI.bigSep_sep']
  refine bigSep_mono fun i _ => ?_
  show _ ⊢@{sProp 𝕄} _
  unfold posB
  iintro ⟨⟨H1, H2, H3⟩, H4⟩
  isplitl [H4]; · iexact H4
  isplitl [H1]; · iexact H1
  isplitl [H2]; · iexact H2
  iexact H3

/-- What the last two loops start from. -/
def tailPre (K : GSem nD τ sig → ℕ) (W : Waits sig Unit) (f g : S2048x1024.Idx → Elt F .bf16) : sProp 𝕄 :=
  iprop(invD I K ∗ openD (F := F) c ∗ openD (F := F) (pr c)
    ∗ hXP c (I (pr c)).x ∗ hNP c (I (pr c)).send ∗ hW1 c (I c).w1 ∗ hW2 c (I c).w2
    ∗ hP c Finset.univ f ∗ hR (pr c) Finset.univ g ∗ owes (c : Thread nD τ) (owedB c 0) W
    ∗ bigSep Finset.univ (tokB (F := F) c)
    ∗ bigSep Finset.univ (fun i => iprop(cred (tallyAt (dC c (rb i)) () Nb) ∗ atPos ER (dC c (sb i)) 0 ∅ 0 ∗ atPos ER (dC c (rb i)) 0 ∅ 0))
    ∗ hO c (own I c))

/-- What they end with. -/
def tailPost : sProp 𝕄 :=
  iprop(hXP c (I (pr c)).x ∗ hNP c (I (pr c)).send ∗ hW1 c (I c).w1 ∗ hW2 c (I c).w2
    ∗ hO c (res I c) ∗ hP c Finset.univ (part I c) ∗ hR c Finset.univ (part I (pr c))
    ∗ bigSep Finset.univ (endB (F := F) c)
    ∗ ∃ W, owes (c : Thread nD τ) (0 : CellTallies nD τ sig Unit) W)

/-- The last two loops: every block is sent, then every block that lands is added. -/
theorem tail (K : GSem nD τ sig → ℕ) (W : Waits sig Unit) (f g : S2048x1024.Idx → Elt F .bf16) (v9 c0 c1 : BitVec 32)
    {α : Type} (kk : Prog (TpuEff nD τ sig (Elt F) Λ₀ .tc) α) (Q : α → sProp 𝕄) :
    iprop(tailPre I c K W f g ∗ (tailPost I c -∗ wp frame (wpE (defs₀ (F := F)) 𝒱₀ (c : Thread nD τ) none) Set.univ kk Q))
      ⊢ wp frame (wpE (defs₀ (F := F)) 𝒱₀ (c : Thread nD τ) none) Set.univ
        (Scf.Loop.for k0_t2_loop k0_t2_ok ⟨⟩ (fun k _ => body2 (F := F) c v9 c0 c1 k)) (fun _ =>
          wp frame (wpE (defs₀ (F := F)) 𝒱₀ (c : Thread nD τ) none) Set.univ
            (Scf.Loop.for k0_t3_loop k0_t3_ok ⟨⟩ (fun k _ => body3 (F := F) k) >>= fun _ => kk) Q) := by
  unfold tailPre
  iintro ⟨⟨#HI, #Ho, #HoP, H0, H1, H3, H4, HP, HR, HO, Ht, Hpos, H5⟩, HQ⟩
  iapply (loop2 c I K W f g v9 c0 c1)
  isplitl [H0 H1 H3 H4 HP HR HO Ht]
  · unfold I2
    rw [rowsFrom_zero, todo_zero, done_zero, BI.bigSep_empty]
    isplitr; · iexact HI
    isplitr; · iexact Ho
    isplitr; · iexact HoP
    isplitl [H0]; · iexact H0
    isplitl [H1]; · iexact H1
    isplitl [H3]; · iexact H3
    isplitl [H4]; · iexact H4
    isplitl [HP]; · iexact HP
    isplitl [HR]; · iexact HR
    isplitl [HO]; · iexact HO
    isplitl [Ht]; · iexact Ht
    iempintro
  unfold I2
  rw [owedB_eight, todo_eight, done_eight]
  iintro ⟨-, -, -, H0, H1, H3, H4, -, -, HO, -, Hc⟩
  rw [wp_bind]
  iapply (loop3 c I K)
  isplitl [HO Hc Hpos H5]
  · unfold I3
    rw [rowsBelow_zero, todo_zero, done_zero, BI.bigSep_empty, mix_zero]
    unfold hP hR
    rw [pointsTo_empty, pointsTo_empty]
    isplitr; · iexact HI
    isplitl [H5]; · iexact H5
    isplitr; · iempintro
    isplitr; · iempintro
    isplitl [Hpos Hc]
    · iapply (pos_join c)
      isplitl [Hpos]; · iexact Hpos
      iexact Hc
    isplitr; · iempintro
    iexists _; iexact HO
  unfold I3
  rw [rowsBelow_eight, done_eight, mix_eight]
  iintro ⟨-, H5, HP, HR, -, He, HO⟩
  iapply HQ
  unfold tailPost
  isplitl [H0]; · iexact H0
  isplitl [H1]; · iexact H1
  isplitl [H3]; · iexact H3
  isplitl [H4]; · iexact H4
  isplitl [H5]; · iexact H5
  isplitl [HP]; · iexact HP
  isplitl [HR]; · iexact HR
  isplitl [He]; · iexact He
  iexact HO

end Cert.KernelIdeal.Rows
-- ==== Proof.Run.lean ====
module

public import proofs.«01_k».proof.Proof.Tail

/-!
The kernel's body at one device, from the launch's resources to its result.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's body at the buffers the launch passes. -/
abbrev bodyK : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6

/-- The sending semaphore of the tokens' copy. -/
theorem sem_0 : SemLoc.dma ((cc0_scratch4.slice (Rect.unit (s := S4) ![0] S1.size inb_S4_S1_0)).squeeze S_ squeezes_S1_S_).sem = osem 0 := by decide +kernel
/-- The receiving semaphore of the tokens' copy. -/
theorem sem_1 : SemLoc.dma ((cc0_scratch4.slice (Rect.unit (s := S4) ![1] S1.size inb_S4_S1_1)).squeeze S_ squeezes_S1_S_).sem = osem 1 := by decide +kernel
/-- The sending semaphore of the mask's copy. -/
theorem sem_2 : SemLoc.dma ((cc0_scratch4.slice (Rect.unit (s := S4) ![2] S1.size inb_S4_S1_2)).squeeze S_ squeezes_S1_S_).sem = osem 2 := by decide +kernel
/-- The receiving semaphore of the mask's copy. -/
theorem sem_3 : SemLoc.dma ((cc0_scratch4.slice (Rect.unit (s := S4) ![3] S1.size inb_S4_S1_3)).squeeze S_ squeezes_S1_S_).sem = osem 3 := by decide +kernel

variable (I : Dev nD → Inp F) (c : Dev nD)

/-- What the tokens' copy leaves in the landing buffer. -/
theorem land_x (fd f : S2048x1024.Idx → Elt F .bf16) :
    (Memref.whole cc0_scratch0).view.write (Elt F) fd ((Memref.whole cc0_stg0_0).view.read (Elt F) f) Finset.univ = f := by
  show (View.whole cc0_scratch0).write (Elt F) fd ((View.whole cc0_stg0_0).read (Elt F) f) Finset.univ = f
  rw [View.read_whole]
  exact View.write_whole_univ _ _ _
/-- What the mask's copy leaves in the landing buffer. -/
theorem land_m (fd f : S2048x128.Idx → Elt F .bf16) :
    (Memref.whole cc0_scratch1).view.write (Elt F) fd ((Memref.whole cc0_stg2_0).view.read (Elt F) f) Finset.univ = f := by
  show (View.whole cc0_scratch1).write (Elt F) fd ((View.whole cc0_stg2_0).read (Elt F) f) Finset.univ = f
  rw [View.read_whole]
  exact View.write_whole_univ _ _ _

/-- What comes with the barrier. -/
theorem payload_bar (c : Dev nD) : (rd I).payload (barC c) 0 () = barPay c := rfl
/-- What comes with a copy semaphore. -/
theorem payload_d (c : Dev nD) (k : Fin 20) : (rd I).payload (dC c k) 0 () = dmaPay I c (6 + k.val) := rfl
/-- How much comes with a copy semaphore. -/
theorem amount_d (c : Dev nD) (k : Fin 20) : (rd I).amount (dC c k) 0 () = amt (osem k) := rfl
/-- With the tokens' sending end. -/
theorem dmaPay_0 (c : Dev nD) : dmaPay I c (6 + (0 : Fin 20).val) = pay0 I c := rfl
/-- With the tokens' receiving end. -/
theorem dmaPay_1 (c : Dev nD) : dmaPay I c (6 + (1 : Fin 20).val) = pay1 I c := rfl
/-- With the mask's sending end. -/
theorem dmaPay_2 (c : Dev nD) : dmaPay I c (6 + (2 : Fin 20).val) = pay2 I c := rfl
/-- With the mask's receiving end. -/
theorem dmaPay_3 (c : Dev nD) : dmaPay I c (6 + (3 : Fin 20).val) = pay3 I c := rfl

/-- A wait on one of the ends of the first two copies, with the blocks still owed. -/
theorem wait_d (κ : ℕ) (k : Fin 20) (hk : lvS (osem k) ≤ 2) (n : ℕ) (W : Waits sig Unit) {sem : DmaSem sig} (hs : SemLoc.dma sem = osem k)
    {sp sp' : Space} {s s' : Shape} {e e' : EltTy} {src : Memref sig .tc sp' s' e'} {dst : Memref sig .tc sp s e}
    {hsrc : src.view.WordExact} {hdst : dst.view.WordExact} (hN : dst.view.dmaCredit = amt (osem k))
    {α : Type} (kk : PUnit → Prog (TpuEff nD τ sig (Elt F) Λ₀ .tc) α) (Q : α → sProp 𝕄) :
    iprop(cellInv ER (rd I) κ (dC c k) ∗ cred (tallyAt (dC c k) () (amt (osem k))) ∗ owes (c : Thread nD τ) (owedB c n) W
        ∗ levAts L lv ∗ atPos ER (dC c k) 0 ∅ 0)
      ⊢ iprop(((∃ W, owes (c : Thread nD τ) (owedB c n) W) ∗ atPos ER (dC c k) (0 + 1) ∅ 0 ∗ dmaPay I c (6 + k.val)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  iintro ⟨#HI, Hc, HO, #Hlev, Ha⟩ HK
  iapply (Rounds.wp_wait_rest_token 𝒱₀ ER (rd I) (c : Thread nD τ) none (κ := κ)
      (wpE_waitDma2_eq 𝒱₀ (c : Thread nD τ) none Set.univ) (Set.mem_univ _) () (O := owedB c n) (W := W) (R := 0) (m := 0) (T := ∅)
      (by rw [hs, hN]; exact (Nat.zero_add _).trans (expect_d I c k).symm)) $$ [Hc HO Ha]
  · rw [hs, hN]
    isplitr; · iexact HI
    isplitl [Hc]; · iexact Hc
    isplitl [HO]; · iexact HO
    isplitr; · iapply (mayWait_d c k hk n); iexact Hlev
    iexact Ha
  rw [hs]
  iintro ⟨HO, Ha, -, Hp⟩
  ihave Hp := (Entails.of_eq (rest_d I c k)) $$ Hp
  iapply HK
  isplitl [HO]; · iexists _; iexact HO
  isplitl [Ha]; · iexact Ha
  iexact Hp

/-- What a device's body starts from: invariants, positions, tokens, credits, and its buffers. -/
def bodyPre (K : GSem nD τ sig → ℕ) (W : Waits sig Unit) : sProp 𝕄 :=
  iprop(invD I K ∗ cellInv ER (rd I) (K (barC c)) (barC c) ∗ cellInv ER (rd I) (K (barC (pr c))) (barC (pr c))
    ∗ atPos ER (barC c) 0 ∅ 0 ∗ reached ER (barC (pr c)) 0 ∗ openD (F := F) c
    ∗ (atPos ER (dC c 0) 0 ∅ 0 ∗ atPos ER (dC c 1) 0 ∅ 0 ∗ atPos ER (dC c 2) 0 ∅ 0 ∗ atPos ER (dC c 3) 0 ∅ 0)
    ∗ dutyTok ER (barC (pr c)) 0 ()
    ∗ (dutyTok ER (dC c 0) 0 () ∗ dutyTok ER (dC (pr c) 1) 0 () ∗ dutyTok ER (dC c 2) 0 () ∗ dutyTok ER (dC (pr c) 3) 0 ())
    ∗ bigSep Finset.univ (tokB (F := F) c)
    ∗ cred (tallyAt (barC c) () 1) ∗ cred (tallyAt (dC c 1) () Nx) ∗ cred (tallyAt (dC c 3) () Nm)
    ∗ bigSep Finset.univ (fun i => iprop(cred (tallyAt (dC c (rb i)) () Nb) ∗ atPos ER (dC c (sb i)) 0 ∅ 0 ∗ atPos ER (dC c (rb i)) 0 ∅ 0))
    ∗ levAts L lv
    ∗ (hX c fullShare (I c).x ∗ hK c (I c).keep ∗ hN c (I c).send ∗ hW1 c (I c).w1 ∗ hW2 c (I c).w2 ∗ (∃ f, hO c f)
      ∗ (∃ f, hXP c f) ∗ (∃ f, hNP c f) ∗ (∃ f, hP c Finset.univ f) ∗ (∃ f, hR c Finset.univ f))
    ∗ owes (c : Thread nD τ) (O₀ c) W)

/-- What it ends with: every counter at zero, its inputs unchanged, the result, and nothing owed. -/
def bodyPost : sProp 𝕄 :=
  iprop(semVal (barC c) 0 ∗ (semVal (dC c 0) 0 ∗ semVal (dC c 1) 0 ∗ semVal (dC c 2) 0 ∗ semVal (dC c 3) 0)
    ∗ bigSep Finset.univ (endB (F := F) c)
    ∗ (hX c fullShare (I c).x ∗ hK c (I c).keep ∗ hN c (I c).send ∗ hW1 c (I c).w1 ∗ hW2 c (I c).w2 ∗ hO c (res I c)
      ∗ (∃ f, hXP c f) ∗ (∃ f, hNP c f) ∗ (∃ f, hP c Finset.univ f) ∗ (∃ f, hR c Finset.univ f))
    ∗ ∃ W, owes (c : Thread nD τ) (0 : CellTallies nD τ sig Unit) W)

set_option maxHeartbeats 3200000 in
/-- The body's run: the barrier, the two copies, the three loops, from the buffers as the call finds them to the result. -/
theorem bodyRun (K : GSem nD τ sig → ℕ) (W : Waits sig Unit) (Q : PUnit → sProp 𝕄) :
    iprop(bodyPre I c K W ∗ (bodyPost I c -∗ Q ⟨⟩))
      ⊢ wp frame (wpE (defs₀ (F := F)) 𝒱₀ (c : Thread nD τ) none) Set.univ (bodyK (F := F)) Q := by
  unfold bodyK
  rw [cc0_body_eq_skeleton]
  unfold cc0_body_skel
  rw [k0_part4_eq_skeleton, k0_part5_eq_skeleton]
  unfold k0_part4_skel k0_part5_skel
  simp -proj only [semSignalWord, semWaitWord, Prog.lift, Prog.bind_op, Prog.bind_ret, Prog.pure_eq_ret, Prog.bind_assoc, wp_deviceId]
  unfold bodyPre
  iintro ⟨⟨#HI, #HIb, #HIbP, HaB, #HrBP, #Ho, ⟨Ha0, Ha1, Ha2, Ha3⟩, HtB, ⟨Ht0, Ht1, Ht2, Ht3⟩, HtT, HcB, Hc1, Hc3, Hpos, #Hlev,
    ⟨HX, HK, HN, HW1, HW2, ⟨%fo, HO5⟩, ⟨%f0, HXP⟩, ⟨%f1, HNP⟩, ⟨%f2, HP⟩, ⟨%f3, HR⟩⟩, HO⟩, HQ⟩
  iapply (Rounds.wp_signal 𝒱₀ ER (rd I) (c : Thread nD τ) none (dst := ((⟨k0_dev1 c, k0_dev1_lt c⟩ : Dev nD) : Thread nD τ)) (sem := barrier0) (r := 0) (d := ()) (κ := K (barC (pr c)))
      (by rw [dev1_eq c, duties_bar]; exact Finset.mem_singleton_self _) rfl () (owedX c) (show O₀ c = _ by rw [dev1_eq c]; rfl)) $$ [HO HtB HXP HNP HR]
  · rw [dev1_eq c]
    isplitr; · iexact HIbP
    isplitl [HO]; · iexact HO
    isplitl [HtB]; · iexact HtB
    isplitl [HXP HNP HR]
    · rw [payload_bar]
      unfold barPay
      rw [pr_pr]
      isplitl [HXP]; · iexists f0; iexact HXP
      isplitl [HNP]; · iexists f1; iexact HNP
      isplitl [HR]; · iexists f3; iexact HR
      iapply (show openD (F := F) c ⊢ bigSep Finset.univ (fun k : Fin 20 => reached ER (dC c k) 0) from .rfl); iexact Ho
    iexact HrBP
  iintro HO
  iapply (Rounds.wp_wait_rest_token 𝒱₀ ER (rd I) (c : Thread nD τ) none (κ := K (barC c))
      (wpE_semWait_eq 𝒱₀ (c : Thread nD τ) none Set.univ) (Set.mem_univ _) () (O := owedX c) (W := W) (R := 0) (m := 0) (T := ∅)
      ((Nat.zero_add 1).trans (expect_bar I c).symm)) $$ [HcB HO HaB]
  · isplitr; · iexact HIb
    isplitl [HcB]; · iexact HcB
    isplitl [HO]; · iexact HO
    isplitr; · iapply (mayWait_bar c); iexact Hlev
    iexact HaB
  iintro ⟨HO, HaB, -, Hp⟩
  ihave Hp := (Entails.of_eq (rest_bar I c)) $$ Hp
  unfold barPay
  icases Hp with ⟨⟨%g0, HXP⟩, ⟨%g1, HNP⟩, ⟨%g3, HR⟩, HoP⟩
  ihave #HoP := (show bigSep Finset.univ (fun k : Fin 20 => reached ER (dC (pr c) k) 0) ⊢ openD (F := F) (pr c) from .rfl) $$ HoP
  -- the copy of the tokens, out of one half of the share of them
  ihave HX := (pointsTo_share (PosShare.mem_left_op_right fullShare)).1 $$ HX
  icases HX with ⟨HXs, HXk⟩
  iapply (Rounds.wp_send_pointsTo 𝒱₀ ER (rd I) (c : Thread nD τ) none (c' := ((⟨k0_dev2 c, k0_dev2_lt c⟩ : Dev nD) : Thread nD τ))
      (src := Memref.whole cc0_stg0_0) (dst := Memref.whole cc0_scratch0)
      (q := qS) (fs := (I c).x) (κ₁ := K (dC c 0)) (κ₂ := K (dC (pr c) 1)) (r₁ := 0) (r₂ := 0) (d₁ := ()) (d₂ := ()) (fd := g0)
      (by rw [sem_0, duties_d]; exact Finset.mem_singleton_self _) (by rw [sem_1, dev2_eq c, duties_d]; exact Finset.mem_singleton_self _)
      () () Nx rfl (by rw [sem_0]; rfl) (by rw [sem_1, dev2_eq c]; rfl)
      (owedM c) (by rw [sem_1, dev2_eq c]) (W := insert (SemLoc.reg barrier0, ()) W)
      (by rw [sem_0, payload_d, dmaPay_0]; exact BI.Entails.refl _)
      (by rw [sem_1, dev2_eq c, payload_d, dmaPay_1]; unfold pay1; rw [land_x, pr_pr])) $$ [HXs HXP HO Ht0 Ht1]
  · rw [sem_0, sem_1, dev2_eq c]
    isplitr; · iapply (invD_at c I K 0); iexact HI
    isplitr; · iapply (invD_at (pr c) I K 1); iexact HI
    isplitl [HXs]; · iexact HXs
    isplitl [HXP]; · iexact HXP
    isplitl [HO]; · iexact HO
    isplitl [Ht0]; · iexact Ht0
    isplitr; · iapply (openD_at c 0); iexact Ho
    isplitl [Ht1]; · iexact Ht1
    iapply (openD_at (pr c) 1); iexact HoP
  rw [sem_0]
  iintro ⟨Hc0, HO⟩
  -- the copy of the mask
  iapply (Rounds.wp_send_pointsTo 𝒱₀ ER (rd I) (c : Thread nD τ) none (c' := ((⟨k0_dev3 c, k0_dev3_lt c⟩ : Dev nD) : Thread nD τ))
      (src := Memref.whole cc0_stg2_0) (dst := Memref.whole cc0_scratch1)
      (q := fullShare) (fs := (I c).send) (κ₁ := K (dC c 2)) (κ₂ := K (dC (pr c) 3)) (r₁ := 0) (r₂ := 0) (d₁ := ()) (d₂ := ()) (fd := g1)
      (by rw [sem_2, duties_d]; exact Finset.mem_singleton_self _) (by rw [sem_3, dev3_eq c, duties_d]; exact Finset.mem_singleton_self _)
      () () Nm rfl (by rw [sem_2]; rfl) (by rw [sem_3, dev3_eq c]; rfl)
      (owedB c 0) (by rw [sem_3, dev3_eq c]) (W := insert (SemLoc.reg barrier0, ()) W)
      (by rw [sem_2, payload_d, dmaPay_2]; exact BI.Entails.refl _)
      (by rw [sem_3, dev3_eq c, payload_d, dmaPay_3]; unfold pay3; rw [land_m, pr_pr])) $$ [HN HNP HO Ht2 Ht3]
  · rw [sem_2, sem_3, dev3_eq c]
    isplitr; · iapply (invD_at c I K 2); iexact HI
    isplitr; · iapply (invD_at (pr c) I K 3); iexact HI
    isplitl [HN]; · iexact HN
    isplitl [HNP]; · iexact HNP
    isplitl [HO]; · iexact HO
    isplitl [Ht2]; · iexact Ht2
    isplitr; · iapply (openD_at c 2); iexact Ho
    isplitl [Ht3]; · iexact Ht3
    iapply (openD_at (pr c) 3); iexact HoP
  rw [sem_2]
  iintro ⟨Hc2, HO⟩
  rw [wp_bind]
  iapply (loop1 c I fo)
  isplitl [HXk HK HW1 HW2 HO5]
  · unfold I1
    rw [mix_zero]
    isplitl [HXk]; · iexact HXk
    isplitl [HK]; · iexact HK
    isplitl [HW1]; · iexact HW1
    isplitl [HW2]; · iexact HW2
    iexact HO5
  unfold I1
  rw [mix_eight]
  iintro ⟨HXk, HK, HW1, HW2, HO5⟩
  iapply (wait_d I c (K (dC c 0)) 0 (by decide) 0 _ sem_0 (by rfl)) $$ [Hc0 HO Ha0]
  · isplitr; · iapply (invD_at c I K 0); iexact HI
    isplitl [Hc0]; · iexact Hc0
    isplitl [HO]; · iexact HO
    isplitr; · iexact Hlev
    iexact Ha0
  rw [dmaPay_0]; unfold pay0
  iintro ⟨⟨%W0, HO⟩, Ha0, HXs⟩
  iapply (wait_d I c (K (dC c 1)) 1 (by decide) 0 _ sem_1 (by rfl)) $$ [Hc1 HO Ha1]
  · isplitr; · iapply (invD_at c I K 1); iexact HI
    isplitl [Hc1]; · iexact Hc1
    isplitl [HO]; · iexact HO
    isplitr; · iexact Hlev
    iexact Ha1
  rw [dmaPay_1]; unfold pay1
  iintro ⟨⟨%W1, HO⟩, Ha1, HXP⟩
  iapply (wait_d I c (K (dC c 2)) 2 (by decide) 0 _ sem_2 (by rfl)) $$ [Hc2 HO Ha2]
  · isplitr; · iapply (invD_at c I K 2); iexact HI
    isplitl [Hc2]; · iexact Hc2
    isplitl [HO]; · iexact HO
    isplitr; · iexact Hlev
    iexact Ha2
  rw [dmaPay_2]; unfold pay2
  iintro ⟨⟨%W2, HO⟩, Ha2, HN⟩
  iapply (wait_d I c (K (dC c 3)) 3 (by decide) 0 _ sem_3 (by rfl)) $$ [Hc3 HO Ha3]
  · isplitr; · iapply (invD_at c I K 3); iexact HI
    isplitl [Hc3]; · iexact Hc3
    isplitl [HO]; · iexact HO
    isplitr; · iexact Hlev
    iexact Ha3
  rw [dmaPay_3]; unfold pay3
  iintro ⟨⟨%W3, HO⟩, Ha3, HNP⟩
  ihave HX := (pointsTo_share (PosShare.mem_left_op_right fullShare)).2 $$ [HXs HXk]
  · isplitl [HXs]; · iexact HXs
    iexact HXk
  rw [wp_bind]
  iapply (tail I c K W3 f2 g3)
  isplitl [HXP HNP HW1 HW2 HP HR HO HtT Hpos HO5]
  · unfold tailPre
    isplitr; · iexact HI
    isplitr; · iexact Ho
    isplitr; · iexact HoP
    isplitl [HXP]; · iexact HXP
    isplitl [HNP]; · iexact HNP
    isplitl [HW1]; · iexact HW1
    isplitl [HW2]; · iexact HW2
    isplitl [HP]; · iexact HP
    isplitl [HR]; · iexact HR
    isplitl [HO]; · iexact HO
    isplitl [HtT]; · iexact HtT
    isplitl [Hpos]; · iexact Hpos
    iexact HO5
  unfold tailPost
  iintro ⟨HXP, HNP, HW1, HW2, HO5, HP, HR, He, HO⟩
  rw [wp_ret]
  imod (close I (K (barC c)) (barC c)) $$ [HaB] with Hb0
  · isplitr; · iexact HIb
    iexact HaB
  imod (close I (K (dC c 0)) (dC c 0)) $$ [Ha0] with Hv0
  · isplitr; · iapply (invD_at c I K 0); iexact HI
    iexact Ha0
  imod (close I (K (dC c 1)) (dC c 1)) $$ [Ha1] with Hv1
  · isplitr; · iapply (invD_at c I K 1); iexact HI
    iexact Ha1
  imod (close I (K (dC c 2)) (dC c 2)) $$ [Ha2] with Hv2
  · isplitr; · iapply (invD_at c I K 2); iexact HI
    iexact Ha2
  imod (close I (K (dC c 3)) (dC c 3)) $$ [Ha3] with Hv3
  · isplitr; · iapply (invD_at c I K 3); iexact HI
    iexact Ha3
  imodintro
  iapply HQ
  unfold bodyPost
  isplitl [Hb0]; · iexact Hb0
  isplitl [Hv0 Hv1 Hv2 Hv3]
  · isplitl [Hv0]; · iexact Hv0
    isplitl [Hv1]; · iexact Hv1
    isplitl [Hv2]; · iexact Hv2
    iexact Hv3
  isplitl [He]; · iexact He
  isplitl [HX HK HN HW1 HW2 HO5 HXP HNP HP HR]
  · isplitl [HX]; · iexact HX
    isplitl [HK]; · iexact HK
    isplitl [HN]; · iexact HN
    isplitl [HW1]; · iexact HW1
    isplitl [HW2]; · iexact HW2
    isplitl [HO5]; · iexact HO5
    isplitl [HXP]; · iexists _; iexact HXP
    isplitl [HNP]; · iexists _; iexact HNP
    isplitl [HP]; · iexists _; iexact HP
    iexists _; iexact HR
  iexact HO

end Cert.KernelIdeal.Rows
-- ==== Proof.Region.lean ====
module

public import proofs.«01_k».proof.Proof.Run
public import proofs.«01_k».proof.Proof.Gen.KernelIdeal.Regions
public import proofs.«01_k».proof.Proof.Gen.KernelIdeal.Points
public import Idealize.ShloMosaic.Lib.Pipeline.RegionTalk

/-!
The kernel as a region of the program: what it is entered with, its body's obligation, what it leaves.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The twenty semaphores, by what they are for -/

/-- A conjunction over the semaphores: the first four, the senders' ends, the receivers' ends. -/
theorem bigSep_univ20 (Φ : Fin 20 → sProp 𝕄) : bigSep Finset.univ Φ
    = iprop((Φ 0 ∗ Φ 1 ∗ Φ 2 ∗ Φ 3) ∗ bigSep Finset.univ (fun i => Φ (sb i)) ∗ bigSep Finset.univ (fun i => Φ (rb i))) := by
  have hs : Function.Injective sb := by decide
  have hr : Function.Injective rb := by decide
  have hu : (Finset.univ : Finset (Fin 20)) = {0, 1, 2, 3} ∪ (Finset.univ.map ⟨sb, hs⟩ ∪ Finset.univ.map ⟨rb, hr⟩) := by decide +revert
  have hd : Disjoint (Finset.univ.map ⟨sb, hs⟩) (Finset.univ.map ⟨rb, hr⟩ : Finset (Fin 20)) := by decide +revert
  have hd' : Disjoint ({0, 1, 2, 3} : Finset (Fin 20)) (Finset.univ.map ⟨sb, hs⟩ ∪ Finset.univ.map ⟨rb, hr⟩) := by decide +revert
  rw [hu, bigSep_union hd', bigSep_union hd, bigSep_map, bigSep_map, bigSep_insert (by decide), bigSep_insert (by decide),
    bigSep_insert (by decide), bigSep_singleton]
  rfl

/-- Two conjunctions over the same index as one, and back. -/
theorem bigSep_join {ι : Type*} {S : Finset ι} {Φ Ψ : ι → sProp 𝕄} :
    iprop(bigSep S Φ ∗ bigSep S Ψ) ⊢ bigSep S (fun i => iprop(Φ i ∗ Ψ i)) := by rw [BI.bigSep_sep']
@[inherit_doc bigSep_join]
theorem bigSep_part {ι : Type*} {S : Finset ι} {Φ Ψ : ι → sProp 𝕄} :
    bigSep S (fun i => iprop(Φ i ∗ Ψ i)) ⊢ iprop(bigSep S Φ ∗ bigSep S Ψ) := by rw [BI.bigSep_sep']

/-! ## What a device is entered with -/

section Ghost

variable (I : Dev nD → Inp F) (c : Dev nD)

/-- The tokens of all that device `c` pays. -/
def payToks : sProp 𝕄 :=
  iprop(dutyTok ER (barC (pr c)) 0 ()
    ∗ (dutyTok ER (dC c 0) 0 () ∗ dutyTok ER (dC (pr c) 1) 0 () ∗ dutyTok ER (dC c 2) 0 () ∗ dutyTok ER (dC (pr c) 3) 0 ())
    ∗ bigSep Finset.univ (tokB (F := F) c))
/-- The credits of all that is owed to device `c`. -/
def credR : sProp 𝕄 :=
  iprop(cred (tallyAt (barC c) () 1) ∗ cred (tallyAt (dC c 1) () Nx) ∗ cred (tallyAt (dC c 3) () Nm)
    ∗ bigSep Finset.univ (fun i => cred (tallyAt (dC c (rb i)) () Nb)))
/-- What is fixed at the launch, at the names `K`. -/
def based (K : GSem nD τ sig → ℕ) : sProp 𝕄 :=
  iprop(invD I K ∗ cellInv ER (rd I) (K (barC c)) (barC c) ∗ cellInv ER (rd I) (K (barC (pr c))) (barC (pr c))
    ∗ atPos ER (barC c) 0 ∅ 0 ∗ reached ER (barC (pr c)) 0 ∗ payToks (F := F) c ∗ credR (F := F) c)
/-- From the launch to the region: its own semaphores are still to be opened. -/
def Tk : sProp 𝕄 :=
  iprop((∃ K, based I c K) ∗ bigSep Finset.univ (fun k : Fin 20 => openTok ER (dC c k)))
/-- In the region: they are open. -/
def Xk : sProp 𝕄 :=
  iprop((∃ K, based I c K) ∗ bigSep Finset.univ (fun k : Fin 20 => iprop(atPos ER (dC c k) 0 ∅ 0 ∗ reached ER (dC c k) 0)) ∗ levAts L lv)

/-- The kernel's own semaphores are the twenty of the copies. -/
theorem ownSems_eq : (Pipeline.ownSems0 osem c : sProp 𝕄) = bigSep Finset.univ (fun k : Fin 20 => semVal (dC c k) 0) := rfl

/-- Opening the semaphores. -/
theorem opening : iprop(Tk I c ∗ Pipeline.ownSems0 osem c ∗ levAts L lv) ⊢ (|={Set.univ}=> Xk I c : sProp 𝕄) := by
  rw [ownSems_eq]
  unfold Tk Xk
  iintro ⟨⟨⟨%K, Hb⟩, Ho⟩, Hs, Hlev⟩
  unfold based
  icases Hb with ⟨#HI, Hb⟩
  ihave H := bigSep_join $$ [Ho Hs]
  · isplitl [Ho]; · iexact Ho
    iexact Hs
  imod (BIBase.Entails.trans (bigSep_with_persistent (R := invD I K)
    (Φ := fun k : Fin 20 => iprop(openTok ER (dC c k) ∗ semVal (dC c k) 0))
    (Ψ := fun k : Fin 20 => iprop(|={Set.univ}=> (atPos ER (dC c k) 0 ∅ 0 ∗ reached ER (dC c k) 0)))
    (fun k _ => BIBase.Entails.trans (sep_mono_left (invD_at c I K k)) (Rounds.cell_open ER (rd I) (g := dC c k) (Set.mem_univ (K (dC c k))))))
    (bigSep_fupd _ _)) $$ [H] with Ha
  · isplitr; · iexact HI
    iexact H
  imodintro
  isplitl [Hb]
  · iexists K
    isplitr; · iexact HI
    iexact Hb
  isplitl [Ha]; · iexact Ha
  iexact Hlev

/-- The landing buffers and the buffer of the parts, at contents not chosen. -/
def scr : sProp 𝕄 := iprop((∃ f, hXP c f) ∗ (∃ f, hNP c f) ∗ (∃ f, hP c Finset.univ f) ∗ (∃ f, hR c Finset.univ f))

/-- What the region leaves: its own counters and the barrier's, at zero. -/
def Yk : sProp 𝕄 := semVal (barC c) 0

def ΦE : sProp 𝕄 := iprop(scr (F := F) c ∗ (∃ r, prngReg c r) ∗ Xk I c)
def ΦL : sProp 𝕄 := iprop(scr (F := F) c ∗ (∃ r, prngReg c r) ∗ Pipeline.ownSems0 osem c ∗ Yk (F := F) c)

/-- The six buffers of the windows, at named contents. -/
def stgs (f : S2048x1024.Idx → Elt F .f32) : sProp 𝕄 :=
  iprop(hX c fullShare (I c).x ∗ hK c (I c).keep ∗ hN c (I c).send ∗ hW1 c (I c).w1 ∗ hW2 c (I c).w2 ∗ hO c f)

/-- Entering and leaving `bodyRun` in the region's terms. -/
theorem region_run (W : Waits sig Unit) (f : S2048x1024.Idx → Elt F .f32) (Q : PUnit → sProp 𝕄) :
    iprop(ΦE I c ∗ owes (c : Thread nD τ) (O₀ c) W ∗ stgs I c f
        ∗ ((ΦL (F := F) c ∗ (∃ W, owes (c : Thread nD τ) (0 : CellTallies nD τ sig Unit) W) ∗ stgs I c (res I c)) -∗ Q ⟨⟩))
      ⊢ wp frame (wpE (defs₀ (F := F)) 𝒱₀ (c : Thread nD τ) none) Set.univ (bodyK (F := F)) Q := by
  unfold ΦE ΦL Xk based stgs scr payToks credR
  rw [bigSep_sep', bigSep_univ20 (fun k => atPos ER (dC c k) 0 ∅ 0)]
  iintro ⟨⟨⟨HXP, HNP, HP, HR⟩, Hp, ⟨%K, HI, HIb, HIp, HaB, HrB, ⟨HtB, Ht, HtT⟩, HcB, Hc1, Hc3, HcT⟩, ⟨⟨Ha, HaS, HaR⟩, Ho⟩, Hlev⟩, HO,
    ⟨HX, HK, HN, HW1, HW2, HOut⟩, HQ⟩
  iapply (bodyRun I c K W Q)
  unfold bodyPre
  isplitr [Hp HQ]
  · isplitl [HI]; · iexact HI
    isplitl [HIb]; · iexact HIb
    isplitl [HIp]; · iexact HIp
    isplitl [HaB]; · iexact HaB
    isplitl [HrB]; · iexact HrB
    isplitl [Ho]; · iapply (show bigSep Finset.univ (fun k : Fin 20 => reached ER (dC c k) 0) ⊢ openD (F := F) c from .rfl); iexact Ho
    isplitl [Ha]; · iexact Ha
    isplitl [HtB]; · iexact HtB
    isplitl [Ht]; · iexact Ht
    isplitl [HtT]; · iexact HtT
    isplitl [HcB]; · iexact HcB
    isplitl [Hc1]; · iexact Hc1
    isplitl [Hc3]; · iexact Hc3
    isplitl [HcT HaS HaR]
    · iapply bigSep_join
      isplitl [HcT]; · iexact HcT
      iapply bigSep_join
      isplitl [HaS]; · iexact HaS
      iexact HaR
    isplitl [Hlev]; · iexact Hlev
    isplitr [HO]
    · isplitl [HX]; · iexact HX
      isplitl [HK]; · iexact HK
      isplitl [HN]; · iexact HN
      isplitl [HW1]; · iexact HW1
      isplitl [HW2]; · iexact HW2
      isplitl [HOut]; · iexists f; iexact HOut
      isplitl [HXP]; · iexact HXP
      isplitl [HNP]; · iexact HNP
      isplitl [HP]; · iexact HP
      iexact HR
    iexact HO
  unfold bodyPost
  iintro ⟨HvB, Hv, He, ⟨HX, HK, HN, HW1, HW2, HOut, HXP, HNP, HP, HR⟩, HO⟩
  iapply HQ
  isplitl [HXP HNP HP HR Hp Hv He HvB]
  · isplitl [HXP HNP HP HR]
    · isplitl [HXP]; · iexact HXP
      isplitl [HNP]; · iexact HNP
      isplitl [HP]; · iexact HP
      iexact HR
    isplitl [Hp]; · iexact Hp
    isplitl [Hv He]
    · rw [ownSems_eq, bigSep_univ20]
      isplitl [Hv]; · iexact Hv
      iapply bigSep_part
      iapply (show bigSep Finset.univ (endB (F := F) c) ⊢ bigSep Finset.univ (fun i => iprop(semVal (dC c (sb i)) 0 ∗ semVal (dC c (rb i)) 0)) from .rfl)
      iexact He
    unfold Yk; iexact HvB
  isplitl [HO]; · iexact HO
  isplitl [HX]; · iexact HX
  isplitl [HK]; · iexact HK
  isplitl [HN]; · iexact HN
  isplitl [HW1]; · iexact HW1
  isplitl [HW2]; · iexact HW2
  iexact HOut

end Ghost

end Cert.KernelIdeal.Rows
-- ==== Proof.Seg.lean ====
module

public import proofs.«01_k».proof.Proof.Region
public import proofs.«01_k».proof.Proof.Gen.KernelIdeal.Regions
public import proofs.«01_k».proof.Proof.Gen.KernelIdeal.Points
public import Idealize.ShloMosaic.Lib.Pipeline.RegionTalk

/-!
The kernel's region as the pipeline library's record: the windows' data, the body's obligation, the segment.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

/-- What the kernel reads, as the host operations before it leave it. -/
def inp (c : Dev nD) : Inp F :=
  ⟨Gen.V1 m c main_v26, Gen.V1 m c main_v19, Gen.V1 m c main_v25, Gen.V1 m c main_v27, Gen.V1 m c main_v28⟩

/-- The memory after the region: the result in `main_v29`, the rest as before. -/
def outs : Gen.Outs (F := F) :=
  fun _ r c => Function.update (Gen.V1 m c) (Proc.devRef .tc main_v29) (res (inp m) c) (Proc.devRef .tc r)

/-- What the call leaves in the result. -/
theorem outs_v29 (c : Dev nD) : Gen.V2 m (outs m) c main_v29 = res (inp m) c := by
  unfold Gen.V2
  rw [Function.update_self]
  unfold outs
  rw [Function.update_self]

/-- The windows' data: the arrays at entry, the staging contents after the body, the region's invariant, what is owed. -/
def dat (c : Dev nD) : Dat τ (Elt F) Unit ℕ UU ℕ cfg0 c where
  A w := Gen.V1 m c (Proc.devRef .tc (Pipeline.arrRef spec0 w))
  after w _ := match w with
    | 0 => (inp m c).x
    | 1 => (inp m c).keep
    | 2 => (inp m c).send
    | 3 => (inp m c).w1
    | 4 => (inp m c).w2
    | 5 => res (inp m) c
  Φ t := if t.val = 0 then ΦE (inp m) c else ΦL c
  q _ := fullShare
  owed t := if t.val = 0 then O₀ c else 0

def dats : (p : Fin 1) → (c : Dev nD) → Dat τ (Elt F) Unit ℕ UU ℕ (Pipeline.pin (pcfgs (F := F)) Gen.adm p) c
  | 0 => dat m

variable (c : Dev nD)

/-- The window of the tokens starts at zero. -/
theorem off_0 : (fun a => win0_0.index t0_0 a * main_v26.ty.shape.size a) = fun _ => 0 := funext fun a => by fin_cases a <;> decide
/-- The window of the tokens lies in its array. -/
theorem inb_0 : ∀ a, win0_0.index t0_0 a * main_v26.ty.shape.size a + main_v26.ty.shape.size a ≤ main_v26.ty.shape.size a := fun a => by fin_cases a <;> decide
/-- Before the step the window of the tokens holds the array. -/
theorem before_0 (d) : (dat m c).before 0 t0_0 d = (inp m c).x := by
  unfold Dat.before
  rw [if_pos (fetch0_0 _)]
  rw [show (dat m c).fetched 0 t0_0 d = (win0_0.blk t0_0).view.read (Elt F) (Gen.V1 m c main_v26) from rfl]
  exact Memref.read_access_unit_zero (Elt F) main_v26 off_0 inb_0 (Gen.V1 m c main_v26)
/-- The window of the own mask starts at zero. -/
theorem off_1 : (fun a => win0_1.index t0_0 a * main_v19.ty.shape.size a) = fun _ => 0 := funext fun a => by fin_cases a <;> decide
/-- The window of the own mask lies in its array. -/
theorem inb_1 : ∀ a, win0_1.index t0_0 a * main_v19.ty.shape.size a + main_v19.ty.shape.size a ≤ main_v19.ty.shape.size a := fun a => by fin_cases a <;> decide
/-- Before the step the window of the own mask holds the array. -/
theorem before_1 (d) : (dat m c).before 1 t0_0 d = (inp m c).keep := by
  unfold Dat.before
  rw [if_pos (fetch0_1 _)]
  rw [show (dat m c).fetched 1 t0_0 d = (win0_1.blk t0_0).view.read (Elt F) (Gen.V1 m c main_v19) from rfl]
  exact Memref.read_access_unit_zero (Elt F) main_v19 off_1 inb_1 (Gen.V1 m c main_v19)
/-- The window of the mask sent starts at zero. -/
theorem off_2 : (fun a => win0_2.index t0_0 a * main_v25.ty.shape.size a) = fun _ => 0 := funext fun a => by fin_cases a <;> decide
/-- The window of the mask sent lies in its array. -/
theorem inb_2 : ∀ a, win0_2.index t0_0 a * main_v25.ty.shape.size a + main_v25.ty.shape.size a ≤ main_v25.ty.shape.size a := fun a => by fin_cases a <;> decide
/-- Before the step the window of the mask sent holds the array. -/
theorem before_2 (d) : (dat m c).before 2 t0_0 d = (inp m c).send := by
  unfold Dat.before
  rw [if_pos (fetch0_2 _)]
  rw [show (dat m c).fetched 2 t0_0 d = (win0_2.blk t0_0).view.read (Elt F) (Gen.V1 m c main_v25) from rfl]
  exact Memref.read_access_unit_zero (Elt F) main_v25 off_2 inb_2 (Gen.V1 m c main_v25)
/-- The window of the first weights starts at zero. -/
theorem off_3 : (fun a => win0_3.index t0_0 a * main_v27.ty.shape.size a) = fun _ => 0 := funext fun a => by fin_cases a <;> decide
/-- The window of the first weights lies in its array. -/
theorem inb_3 : ∀ a, win0_3.index t0_0 a * main_v27.ty.shape.size a + main_v27.ty.shape.size a ≤ main_v27.ty.shape.size a := fun a => by fin_cases a <;> decide
/-- Before the step the window of the first weights holds the array. -/
theorem before_3 (d) : (dat m c).before 3 t0_0 d = (inp m c).w1 := by
  unfold Dat.before
  rw [if_pos (fetch0_3 _)]
  rw [show (dat m c).fetched 3 t0_0 d = (win0_3.blk t0_0).view.read (Elt F) (Gen.V1 m c main_v27) from rfl]
  exact Memref.read_access_unit_zero (Elt F) main_v27 off_3 inb_3 (Gen.V1 m c main_v27)
/-- The window of the second weights starts at zero. -/
theorem off_4 : (fun a => win0_4.index t0_0 a * main_v28.ty.shape.size a) = fun _ => 0 := funext fun a => by fin_cases a <;> decide
/-- The window of the second weights lies in its array. -/
theorem inb_4 : ∀ a, win0_4.index t0_0 a * main_v28.ty.shape.size a + main_v28.ty.shape.size a ≤ main_v28.ty.shape.size a := fun a => by fin_cases a <;> decide
/-- Before the step the window of the second weights holds the array. -/
theorem before_4 (d) : (dat m c).before 4 t0_0 d = (inp m c).w2 := by
  unfold Dat.before
  rw [if_pos (fetch0_4 _)]
  rw [show (dat m c).fetched 4 t0_0 d = (win0_4.blk t0_0).view.read (Elt F) (Gen.V1 m c main_v28) from rfl]
  exact Memref.read_access_unit_zero (Elt F) main_v28 off_4 inb_4 (Gen.V1 m c main_v28)
/-- The window of the result starts at zero. -/
theorem off_5 : (fun a => win0_5.index t0_0 a * main_v29.ty.shape.size a) = fun _ => 0 := funext fun a => by fin_cases a <;> decide
/-- The window of the result lies in its array. -/
theorem inb_5 : ∀ a, win0_5.index t0_0 a * main_v29.ty.shape.size a + main_v29.ty.shape.size a ≤ main_v29.ty.shape.size a := fun a => by fin_cases a <;> decide

/-- At the step, all is owed. -/
theorem owed_first : (dat m c).owed t0_0.castSucc = O₀ c := by
  show (if (t0_0.castSucc : Fin (cfg0.N + 1)).val = 0 then O₀ c else 0) = O₀ c; exact if_pos rfl
/-- After the step, nothing is owed. -/
theorem owed_next : (dat m c).owed t0_0.succ = 0 := by
  show (if (t0_0.succ : Fin (cfg0.N + 1)).val = 0 then O₀ c else 0) = 0; exact if_neg (by decide)
/-- At the entry of the call, all is owed. -/
theorem owed_zero : (dats m 0 c).owed 0 = O₀ c := by
  show (if (0 : Fin (cfg0.N + 1)).val = 0 then O₀ c else 0) = O₀ c; exact if_pos rfl
/-- At its end, nothing is owed. -/
theorem owed_last : (dats m 0 c).owed (Fin.last _) = 0 := by
  show (if (Fin.last cfg0.N).val = 0 then O₀ c else 0) = 0
  exact if_neg (by rw [Fin.val_last, show cfg0.N = 1 from N_0]; decide)

/-- At the step, the entry state holds. -/
theorem Φ_first : (dat m c).Φ t0_0.castSucc = ΦE (inp m) c := by
  show (if (t0_0.castSucc : Fin (cfg0.N + 1)).val = 0 then ΦE (inp m) c else ΦL c) = _; exact if_pos rfl
/-- After the step, the exit state holds. -/
theorem Φ_next : (dat m c).Φ t0_0.succ = ΦL c := by
  show (if (t0_0.succ : Fin (cfg0.N + 1)).val = 0 then ΦE (inp m) c else ΦL c) = _; exact if_neg (by decide)
/-- At the entry of the call, the entry state holds. -/
theorem Φ_zero : (dats m 0 c).Φ 0 = ΦE (inp m) c := by
  show (if (0 : Fin (cfg0.N + 1)).val = 0 then ΦE (inp m) c else ΦL c) = _; exact if_pos rfl
/-- At its end, the exit state holds. -/
theorem Φ_last : (dats m 0 c).Φ (Fin.last _) = ΦL c := by
  show (if (Fin.last cfg0.N).val = 0 then ΦE (inp m) c else ΦL c) = _
  exact if_neg (by rw [Fin.val_last, show cfg0.N = 1 from N_0]; decide)

/-- The step's debt, in the body's form. -/
theorem owesAt_first : ((dat m c).owesAt () t0_0.castSucc : sProp 𝕄) ⊢ iprop(∃ W, owes (c : Thread nD τ) (O₀ c) W) := by
  unfold Dat.owesAt Pipeline.owesWithin
  rw [owed_first]
  iintro ⟨%W, -, HO⟩; iexists W; iexact HO
/-- No debt, in the pipeline's form. -/
theorem owesAt_last : iprop(∃ W, owes (c : Thread nD τ) (0 : CellTallies nD τ sig Unit) W) ⊢ ((dat m c).owesAt () t0_0.succ : sProp 𝕄) := by
  unfold Dat.owesAt Pipeline.owesWithin Dat.bound
  rw [owed_next, show (dat m c).recorded t0_0.succ = Set.univ from rfl]
  iintro ⟨%W, HO⟩; iexists W; isplitr; · ipureintro; exact fun _ _ => Or.inl trivial
  iexact HO

/-- A whole buffer owned at contents, in the two forms. -/
theorem owns_in (b : Ref sig .tc) (X : b.ty.Contents (Elt F)) :
    (owns (c : Thread nD τ) (Memref.whole b) fullShare X : sProp 𝕄)
      ⊢ (Memref.whole b).view.loc (c : Thread nD τ) ↦[(Memref.whole b).view.set]{fullShare} X := by
  unfold owns
  iintro ⟨%f, %h, H⟩
  rw [View.read_whole] at h
  subst h
  iexact H
@[inherit_doc owns_in]
theorem owns_out (b : Ref sig .tc) (X : b.ty.Contents (Elt F)) :
    ((Memref.whole b).view.loc (c : Thread nD τ) ↦[(Memref.whole b).view.set]{fullShare} X : sProp 𝕄)
      ⊢ owns (c : Thread nD τ) (Memref.whole b) fullShare X := by
  unfold owns
  iintro H
  iexists X
  isplitr; · ipureintro; exact View.read_whole ..
  iexact H

/-- The body meets the pipeline's obligation. -/
theorem body_obligation : BodyObligation (dat m c) defs₀ 𝒱₀ () Set.univ := fun t => by
  obtain rfl := fin_N0 t
  rw [bigSep_W0, bigSep_W0]
  simp only [before_0, before_1, before_2, before_3, before_4]
  rw [Φ_first, Φ_next]
  iintro ⟨HΦ, HO, ⟨%d0, H0⟩, ⟨%d1, H1⟩, ⟨%d2, H2⟩, ⟨%d3, H3⟩, ⟨%d4, H4⟩, ⟨%d5, H5⟩⟩
  ihave HO' := (owesAt_first m c) $$ HO
  icases HO' with ⟨%W, HO⟩
  iapply (region_run (inp m) c W ((dat m c).before 5 t0_0 d5) _)
  isplitl [HΦ]; · iexact HΦ
  isplitl [HO]; · iexact HO
  isplitl [H0 H1 H2 H3 H4 H5]
  · unfold stgs
    isplitl [H0]; · iapply (owns_in c cc0_stg0_0 (inp m c).x); iexact H0
    isplitl [H1]; · iapply (owns_in c cc0_stg1_0 (inp m c).keep); iexact H1
    isplitl [H2]; · iapply (owns_in c cc0_stg2_0 (inp m c).send); iexact H2
    isplitl [H3]; · iapply (owns_in c cc0_stg3_0 (inp m c).w1); iexact H3
    isplitl [H4]; · iapply (owns_in c cc0_stg4_0 (inp m c).w2); iexact H4
    iapply (owns_in c cc0_stg5_0 _); iexact H5
  unfold stgs
  iintro ⟨HΦ, HO, H0, H1, H2, H3, H4, H5⟩
  isplitl [HΦ]; · iexact HΦ
  isplitl [HO]; · iapply (owesAt_last m c); iexact HO
  isplitl [H0]; · iapply (owns_out c cc0_stg0_0 (inp m c).x); iexact H0
  isplitl [H1]; · iapply (owns_out c cc0_stg1_0 (inp m c).keep); iexact H1
  isplitl [H2]; · iapply (owns_out c cc0_stg2_0 (inp m c).send); iexact H2
  isplitl [H3]; · iapply (owns_out c cc0_stg3_0 (inp m c).w1); iexact H3
  isplitl [H4]; · iapply (owns_out c cc0_stg4_0 (inp m c).w2); iexact H4
  iapply (owns_out c cc0_stg5_0 (res (inp m) c)); iexact H5

/-- What the pipeline's layout asks of the call. -/
theorem kit : Pipeline.PLaunchFacts (nD := nD) (τ := τ) (pcfgs (F := F)) 0 where
  cellOf_inj := fun _ => Gen.cellOf_inj
  win := winFacts0
  pre := Pipeline.PreFacts.none _
  block_pos := block_pos0
  arr_whole := arr_whole0
  stage_whole := stage_whole0

/-- A whole buffer's points-to, in the two forms. -/
theorem whole_eq (b : Ref sig .tc) (f : b.ty.Contents (Elt F)) :
    ((Memref.whole b).view.loc (c : Thread nD τ) ↦[(Memref.whole b).view.set]{fullShare} f : sProp 𝕄)
      = (((c : Thread nD τ).loc b) ↦{fullShare} f) := by
  rw [show (Memref.whole b).view.set = Finset.univ from View.set_whole _]

/-- The buffers no window stages. -/
theorem scr_eq : (Pipeline.scopedRest (Ix := Unit) (Name := ℕ) (U := UU) (Lvl := ℕ) (Val := Elt F) spec0 c : sProp 𝕄) = scr (F := F) c := by
  rw [scopedRest0_eq]
  unfold scr
  simp -proj only [hXP, hNP, whole_eq]
  rfl

/-- An input's array at the end: as it was. -/
theorem arr_in (w : Fin 6) (r : Ref sig .tc) (hr : Pipeline.arrRef spec0 w = r) (ho : (cfg0.win w).isOut = false) (h : r ∉ [main_v29]) :
    (dat m c).arrAt w cfg0.N = Gen.V2 m (outs m) c (Proc.devRef .tc (Pipeline.arrRef spec0 w)) := by
  subst hr
  exact ((dat m c).arrAt_in w ho _).trans (Gen.V2_of m (outs m) c (Pipeline.arrRef spec0 w) h).symm
/-- The result's array at the end. -/
theorem arr_out : (dat m c).arrAt 5 cfg0.N = Gen.V2 m (outs m) c (Proc.devRef .tc (Pipeline.arrRef spec0 5)) := by
  have h1 : (dat m c).arrAt 5 (t0_0.val + 1) = (win0_5.blk t0_0).view.write (Elt F) (Gen.V1 m c main_v29) (res (inp m) c) Finset.univ := by
    rw [(dat m c).arrAt_succ 5 t0_0, if_pos (flush0_5 _)]
    rfl
  have h2 : (win0_5.blk t0_0).view.write (Elt F) (Gen.V1 m c main_v29) (res (inp m) c) Finset.univ = res (inp m) c :=
    (Memref.read_access_unit_zero (Elt F) main_v29 off_5 inb_5 _).symm.trans (View.read_write_univ _ _)
  exact (h1.trans h2).trans (outs_v29 m c).symm
/-- Every window's array at the end. -/
theorem arr_last : ∀ w : Fin 6, (dat m c).arrAt w cfg0.N = Gen.V2 m (outs m) c (Proc.devRef .tc (Pipeline.arrRef spec0 w))
  | 0 => arr_in m c 0 main_v26 rfl rfl (by decide)
  | 1 => arr_in m c 1 main_v19 rfl rfl (by decide)
  | 2 => arr_in m c 2 main_v25 rfl rfl (by decide)
  | 3 => arr_in m c 3 main_v27 rfl rfl (by decide)
  | 4 => arr_in m c 4 main_v28 rfl rfl (by decide)
  | 5 => arr_out m c

/-! ## The segment -/

/-- The staging transfers' counters are below everything that is owed. -/
theorem staged_low (w : Fin 6) (s : Fin (win0 w).nbuf) : lvS (.dma ((win0 w).sem s)) ≤ 0 := by
  revert s; revert w; decide

/-- Everything that is owed at the start is owed at a counter above the staging transfers'. -/
theorem owed_above (g : GSem nD τ sig) (i : Unit) (h : 0 < O₀ c g i) : i ∈ L g ∧ 0 < lv g i := by
  unfold O₀ at h
  rw [Pi.add_apply, Finsupp.add_apply, tallyAt_apply] at h
  by_cases hb : g = barC (pr c)
  · subst hb; exact ⟨by rw [L_tc]; exact Finset.mem_singleton_self _, show 0 < lvS (.reg barrier0) from by decide⟩
  · rw [if_neg (fun hh => hb hh.1)] at h
    obtain ⟨k, rfl⟩ | rfl | rfl := owedX_at c g i h <;> refine ⟨by rw [L_tc]; exact Finset.mem_singleton_self _, ?_⟩
    · show 0 < lvS (osem (rb k)); rw [lvS_r]; decide
    · show 0 < lvS (osem 3); decide
    · show 0 < lvS (osem 1); decide

/-- The unscoped buffers that are no window's array. -/
abbrev others : Finset (DevRef τ sig) := Pipeline.ucRefs τ sig \ Pipeline.arrRefs spec0

/-- The call leaves the buffers that are no window's array. -/
theorem others_same (b : DevRef τ sig) (hb : b ∈ others) : Gen.V2 m (outs m) c b = Gen.V1 m c b := by
  refine Function.update_of_ne (fun h => ?_) _ _
  subst h
  exact (Finset.mem_sdiff.mp hb).2 (by decide)

set_option backward.isDefEq.respectTransparency.types false in
/-- The kernel's call as a segment of the program. -/
def seg : Pipeline.RegionSeg (pcfgs (F := F)) Gen.adm (dats m) () defs₀ 𝒱₀ L lv 0 :=
  Pipeline.RegionSeg.ofTalk (pcfgs (F := F)) Gen.adm (dats m) () defs₀ 𝒱₀ L lv 0 osem (by decide : Pipeline.OwnSemFacts spec0 osem)
    ∅ others (Finset.empty_subset _) kit rfl (fun c => (body_obligation m c).loose)
    (fun _ => 0) O₀ (fun c => (owed_zero m c).trans (zero_add _).symm) (owed_last m) (fun _ => rfl)
    (fun _ _ => by unfold Dat.share; split <;> rfl)
    (Gen.V1 m) (Gen.V2 m (outs m)) (fun c b hb => others_same m c b (Finset.sdiff_subset hb))
    (Tk (inp m)) Yk (Xk (inp m)) Yk (opening (inp m))
    (fun c => by
      rw [show (dats m 0 c).Φ 0 = _ from Φ_zero m c]
      unfold ΦE
      rw [← scr_eq]
      iintro ⟨Hs, Hp, -, HX⟩
      isplitl [Hs]; · iexact Hs
      isplitl [Hp]; · iexact Hp
      iexact HX)
    (fun c => by
      rw [show (dats m 0 c).Φ (Fin.last _) = _ from Φ_last m c]
      unfold ΦL
      rw [← scr_eq]
      iintro ⟨Hs, Hp, Ho, HY⟩
      isplitl [Hs]; · iexact Hs
      isplitl [Hp]; · iexact Hp
      isplitr
      · unfold StableHlo.held; rw [bigSep_empty]; iempintro
      isplitl [Ho]; · iexact Ho
      iexact HY)
    (fun c => by iintro H; imodintro; iexact H)
    (fun _ => 0)
    ⟨fun c w s => by rw [L_tc]; exact Finset.mem_singleton_self _, fun c w s => staged_low w s, fun c t g i h => by
      have ho : (dats m 0 c).owed t = if t.val = 0 then O₀ c else 0 := rfl
      rw [ho] at h
      split at h
      · exact owed_above c g i h
      · exact absurd h (by simp)⟩
    (fun _ => iprop(emp))
    (fun _ _ => rfl) (fun c w => arr_last m c w)

end Cert.KernelIdeal.Rows
-- ==== Proof.Launch.lean ====
module

public import proofs.«01_k».proof.Proof.Seg
public import proofs.«01_k».proof.Proof.Gen.KernelIdeal.Regions
public import proofs.«01_k».proof.Proof.Gen.KernelIdeal.Points
public import Idealize.ShloMosaic.Lib.Pipeline.RegionTalk

/-!
The launch of the whole program and its run: what every device ends with.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-! ## The cells and the tokens -/

/-- The twenty semaphores differ. -/
theorem osem_inj : Function.Injective osem := by decide
/-- None of them is the barrier. -/
theorem osem_ne_bar : ∀ k : Fin 20, osem k ≠ .reg barrier0 := by decide

/-- The barrier's cell of every device. -/
def barEmb : Dev nD ↪ GSem nD τ sig := ⟨barC, fun _ _ h => congrArg (fun g : GSem nD τ sig => g.1.1) h⟩
/-- The kernel's own cells of every device. -/
def ownEmb : Dev nD × Fin 20 ↪ GSem nD τ sig :=
  ⟨fun p => dC p.1 p.2, fun _ _ h => Prod.ext (congrArg (fun g : GSem nD τ sig => g.1.1) h) (osem_inj (congrArg Prod.snd h))⟩
/-- A cell's one duty. -/
def dutyEmb : GSem nD τ sig ↪ GSem nD τ sig × ℕ × Unit := ⟨fun g => (g, 0, ()), fun _ _ h => congrArg Prod.fst h⟩

abbrev barCells : Finset (GSem nD τ sig) := Finset.univ.map barEmb
abbrev ownCells : Finset (GSem nD τ sig) := Finset.univ.map ownEmb
abbrev duties : Finset (GSem nD τ sig × ℕ × Unit) := (barCells ∪ ownCells).map dutyEmb

/-- The barriers' cells are apart from the others. -/
theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- A conjunction over the barriers' cells, device by device. -/
theorem bar_all (Φ : GSem nD τ sig → sProp 𝕄) : bigSep barCells Φ = bigSep Finset.univ (fun c : Dev nD => Φ (barC c)) :=
  bigSep_map (s := Finset.univ) barEmb
/-- A conjunction over the copies' cells, device by device and semaphore by semaphore. -/
theorem own_all (Φ : GSem nD τ sig → sProp 𝕄) : bigSep ownCells Φ = bigSep Finset.univ (fun p : Dev nD × Fin 20 => Φ (dC p.1 p.2)) :=
  bigSep_map (s := Finset.univ) ownEmb

/-- The tokens, from the cells they are minted at to the devices that pay. -/
theorem toks_deal : bigSep duties (fun x => (dutyTok ER x.1 x.2.1 x.2.2 : sProp 𝕄)) ⊢ bigSep Finset.univ (payToks (F := F)) := by
  rw [bigSep_map, bigSep_union cells_disjoint, bar_all, own_all, bigSep_univ_prod]
  show BI.sep (bigSep Finset.univ fun c : Dev nD => (dutyTok ER (barC c) 0 () : sProp 𝕄))
    (bigSep Finset.univ fun c : Dev nD => bigSep Finset.univ fun k : Fin 20 => dutyTok ER (dC c k) 0 ()) ⊢ _
  rw [bigSep_congr (s := (Finset.univ : Finset (Dev nD))) (fun c _ => bigSep_univ20 (F := F) (fun k => dutyTok ER (dC c k) 0 ()))]
  unfold payToks tokB
  simp only [bigSep_sep']
  rw [bigSep_univ_equiv ring (fun c : Dev nD => (dutyTok ER (barC c) 0 () : sProp 𝕄)),
    bigSep_univ_equiv ring (fun c : Dev nD => (dutyTok ER (dC c 1) 0 () : sProp 𝕄)),
    bigSep_univ_equiv ring (fun c : Dev nD => (dutyTok ER (dC c 3) 0 () : sProp 𝕄)),
    bigSep_univ_equiv ring (fun c : Dev nD => (bigSep Finset.univ (fun i : Fin 8 => dutyTok ER (dC c (rb i)) 0 ()) : sProp 𝕄))]
  exact .rfl

/-! ## The credits -/

/-- What device `d` owes is owed at its partner's cells. -/
theorem O₀_at (d : Dev nD) (g : GSem nD τ sig) (h : O₀ d g ≠ 0) : g.1 = (pr d : Thread nD τ) := by
  obtain ⟨u, hu⟩ := DFunLike.ne_iff.mp h
  have h' : 0 < O₀ d g u := Nat.pos_of_ne_zero hu
  unfold O₀ at h'
  rw [Pi.add_apply, Finsupp.add_apply, tallyAt_apply] at h'
  by_cases hb : g = barC (pr d)
  · subst hb; rfl
  · rw [if_neg (fun hh => hb hh.1)] at h'
    obtain ⟨k, rfl⟩ | rfl | rfl := owedX_at d g u h' <;> rfl

/-- Every device's credits at the launch: what its partner owes it. -/
theorem creds (c : Dev nD) : (Pipeline.launchCred O₀ c : sProp 𝕄) ⊢ credR (F := F) c := by
  rw [Pipeline.launchCred_of_sum O₀ (fun c => O₀ (pr c)) (Equiv.sum_comp ring O₀).symm
    (fun d g h => by rw [O₀_at (pr d) g h, pr_pr]) c]
  unfold O₀ owedX owedM owedB credR
  rw [pr_pr, todo_zero]
  refine BIBase.Entails.trans (cred_add _ _).1 ?_
  refine BIBase.Entails.trans (sep_mono_left (cred_add _ _).1) ?_
  refine BIBase.Entails.trans (sep_mono_left (sep_mono_left (cred_add _ _).1)) ?_
  rw [Pipeline.cred_finsetSum]
  iintro ⟨⟨⟨HT, H3⟩, H1⟩, HB⟩
  isplitl [HB]; · iexact HB
  isplitl [H1]; · iexact H1
  isplitl [H3]; · iexact H3
  iexact HT

/-! ## The launch's element -/

/-- The pipeline library's part beside the protocol's. -/
def u₀ : UU :=
  (initOf (Pipeline.cells (Pipeline.pin (pcfgs (F := F)) Gen.adm) Gen.cellOf_inj) (Pipeline.launchToks (Pipeline.pin (pcfgs (F := F)) Gen.adm) Gen.cellOf_inj),
    launchOf barCells ownCells duties)

/-- The protocol's part, at device 0 until every device's share is made of it. -/
def G (c : Dev nD) : sProp 𝕄 := if c = 0 then BI.own (ER (launchOf barCells ownCells duties)) else iprop(emp)
/-- The ghost state of all devices is the one of the launch. -/
theorem G_all : bigSep Finset.univ (G (F := F)) = BI.own (ER (launchOf barCells ownCells duties)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

section Launch

variable (m : (ℓ : Loc nD τ sig) → Buf (Elt F) ℓ)

/-- What every device may consult: all invariants, and that the barriers' cells are open. -/
def records (I : Dev nD → Inp F) (K : GSem nD τ sig → ℕ) : sProp 𝕄 :=
  iprop(bigSep (barCells ∪ ownCells) (fun g => cellInv ER (rd I) (K g) g) ∗ bigSep barCells (fun g => reached ER g 0))

instance records_persistent (I : Dev nD → Inp F) (K : GSem nD τ sig → ℕ) : BI.Persistent (records I K) := by unfold records; infer_instance

/-- Device `c`'s share of what is not persistent. -/
def share (c : Dev nD) : sProp 𝕄 :=
  iprop(atPos ER (barC c) 0 ∅ 0 ∗ bigSep Finset.univ (fun k : Fin 20 => openTok ER (dC c k)) ∗ payToks (F := F) c)

/-- From the records: the barrier's invariant, and that it is open. -/
theorem records_bar (I : Dev nD → Inp F) (K : GSem nD τ sig → ℕ) (c : Dev nD) :
    records I K ⊢ iprop(cellInv ER (rd I) (K (barC c)) (barC c) ∗ reached ER (barC c) 0) := by
  unfold records
  exact BI.BIClass.sep_mono (bigSep_elim (Finset.mem_union_left _ (Finset.mem_map_of_mem barEmb (Finset.mem_univ c))))
    (bigSep_elim (Finset.mem_map_of_mem barEmb (Finset.mem_univ c)))
/-- From the records: the invariants of all copies' cells. -/
theorem records_own (I : Dev nD → Inp F) (K : GSem nD τ sig → ℕ) : records I K ⊢ invD I K := by
  unfold records invD
  iintro ⟨H, -⟩
  iapply (show bigSep (barCells ∪ ownCells) (fun g => (cellInv ER (rd I) (K g) g : sProp 𝕄))
      ⊢ bigSep Finset.univ (fun p : Dev nD × Fin 20 => cellInv ER (rd I) (K (dC p.1 p.2)) (dC p.1 p.2)) from by
    rw [← own_all (fun g => cellInv ER (rd I) (K g) g)]
    exact bigSep_subset Finset.subset_union_right)
  iexact H

/-- From the records, a device's share and its credits: what it carries to the call. -/
theorem Tk_intro (I : Dev nD → Inp F) (K : GSem nD τ sig → ℕ) (c : Dev nD) :
    iprop(records I K ∗ share (F := F) c ∗ credR (F := F) c) ⊢ Tk I c := by
  unfold share Tk
  iintro ⟨#HR, ⟨Ha, Ho, Ht⟩, Hc⟩
  ihave #HI := (records_own I K) $$ HR
  ihave #H1 := (records_bar I K c) $$ HR
  ihave #H2 := (records_bar I K (pr c)) $$ HR
  icases H1 with ⟨#H1i, -⟩
  icases H2 with ⟨#H2i, #H2r⟩
  isplitr [Ho]
  · iexists K
    unfold based
    isplitr; · iexact HI
    isplitr; · iexact H1i
    isplitr; · iexact H2i
    isplitl [Ha]; · iexact Ha
    isplitr; · iexact H2r
    isplitl [Ht]; · iexact Ht
    iexact Hc
  iexact Ho

/-- What rides beside the buffers up to the kernel. -/
def E0 (c : Dev nD) : sProp 𝕄 := iprop(Tk (inp m) c ∗ (∃ r, prngReg c r) ∗ ∃ W, owes (c : Thread nD τ) (O₀ c) W)

/-- What the host operations leave is what the call is entered with. -/
theorem seg_pre (c : Dev nD) : iprop(StableHlo.held (c : Thread nD τ) (Pipeline.ucRefs τ sig) (Gen.V1 m c) ∗ E0 m c) ⊢ (seg m).pre c := by
  show _ ⊢ iprop(StableHlo.held (c.tc : Thread nD τ) (Pipeline.arrRefs spec0) (Gen.V1 m c) ∗ (∃ r, prngReg c r)
    ∗ (StableHlo.held (c.tc : Thread nD τ) others (Gen.V1 m c) ∗ emp) ∗ Tk (inp m) c ∗ ∃ Wd, owes (c : Thread nD τ) (0 + O₀ c) Wd)
  rw [zero_add, StableHlo.held_sub_split (c : Thread nD τ) (Pipeline.arrRefs_sub_ucRefs spec0 (by decide)) (Gen.V1 m c)]
  unfold E0
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- What the call leaves is what the program ends with. -/
theorem seg_post (c : Dev nD) : (seg m).post c
    ⊢ iprop((StableHlo.held (c : Thread nD τ) (Pipeline.ucRefs τ sig) (Gen.V2 m (outs m) c) ∗ semVal (barC c) 0)
        ∗ ∃ W, owes (c : Thread nD τ) (0 : CellTallies nD τ sig Unit) W) := by
  show iprop(StableHlo.held (c.tc : Thread nD τ) (Pipeline.arrRefs spec0) (Gen.V2 m (outs m) c) ∗ (∃ r, prngReg c r)
    ∗ (StableHlo.held (c.tc : Thread nD τ) others (Gen.V2 m (outs m) c) ∗ emp) ∗ Yk c ∗ ∃ Wd, owes (c : Thread nD τ) (0 : CellTallies nD τ sig Unit) Wd) ⊢ _
  rw [StableHlo.held_sub_split (c : Thread nD τ) (Pipeline.arrRefs_sub_ucRefs spec0 (by decide)) (Gen.V2 m (outs m) c)]
  unfold Yk
  iintro ⟨Ha, -, ⟨Ho, -⟩, Hb, HO⟩
  isplitr [HO]
  · isplitr [Hb]
    · isplitl [Ha]; · iexact Ha
      iexact Ho
    iexact Hb
  iexact HO

/-- The barrier is the only semaphore that outlives the call. -/
theorem unscoped_bar : ∀ sm : SemLoc sig, sm.isScoped .tc = false → sm = .reg barrier0 := by decide

/-- So the program starts with the barrier at zero. -/
theorem unscopedSems_eq (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

variable (ρ : Dev nD → PrngReg)

abbrev T₀ (c : Dev nD) : sProp 𝕄 := iprop(StableHlo.held (c : Thread nD τ) (Pipeline.ucRefs τ sig) (Gen.V0 m c) ∗ E0 m c)

/-- A device's launch holdings, the protocol's element apart. -/
def bundle (c : Dev nD) : sProp 𝕄 :=
  iprop(StableHlo.held (c : Thread nD τ) (Pipeline.ucRefs τ sig) (Gen.V0 m c) ∗ credR (F := F) c
    ∗ owes (c : Thread nD τ) (O₀ c) ∅ ∗ ∃ r, prngReg c r)

/-- A device's start, put together. -/
theorem bundle_intro (c : Dev nD) :
    iprop(unscopedBufs c (fun b => m ((c : Thread nD τ).loc b)) ∗ unscopedSems0 c ∗ owes (c : Thread nD τ) (O₀ c) ∅
        ∗ Pipeline.launchCred O₀ c ∗ prngReg c (ρ c) ∗ G (F := F) c)
      ⊢ (iprop(bundle m c ∗ semVal (barC c) 0 ∗ G (F := F) c) : sProp 𝕄) := by
  rw [show unscopedBufs c (fun b => m ((c : Thread nD τ).loc b)) = StableHlo.held (c : Thread nD τ) (Pipeline.ucRefs τ sig) (Gen.V0 m c)
      from Pipeline.unscopedBufs_held c (Gen.V0 m c), unscopedSems_eq]
  unfold bundle
  iintro ⟨Hh, Hs, HO, Hc, Hp, HG⟩
  isplitr [Hs HG]
  · isplitl [Hh]; · iexact Hh
    isplitl [Hc]; · iapply (creds (F := F) c); iexact Hc
    isplitl [HO]; · iexact HO
    iexists (ρ c); iexact Hp
  isplitl [Hs]; · iexact Hs
  iexact HG

/-- The same on all devices. -/
theorem bundles :
    (bigSep Finset.univ fun c : Dev nD => iprop(unscopedBufs c (fun b => m ((c : Thread nD τ).loc b)) ∗ unscopedSems0 c ∗ owes (c : Thread nD τ) (O₀ c) ∅
        ∗ Pipeline.launchCred O₀ c ∗ prngReg c (ρ c) ∗ G (F := F) c))
      ⊢ (bigSep Finset.univ fun c : Dev nD => iprop(bundle m c ∗ semVal (barC c) 0 ∗ G (F := F) c) : sProp 𝕄) :=
  bigSep_mono fun c _ => bundle_intro m ρ c

/-- What a device starts from, once the cells have their names. -/
theorem T₀_intro (K : GSem nD τ sig → ℕ) (c : Dev nD) : iprop(records (inp m) K ∗ share (F := F) c ∗ bundle m c) ⊢ T₀ m c := by
  unfold bundle T₀ E0
  iintro ⟨#HR, Hs, Hh, Hc, HO, Hp⟩
  isplitl [Hh]; · iexact Hh
  isplitl [Hs Hc]
  · iapply (Tk_intro (inp m) K c)
    isplitr; · iexact HR
    isplitl [Hs]; · iexact Hs
    iexact Hc
  isplitl [Hp]; · iexact Hp
  iexists ∅; iexact HO

/-- The launch, on all devices at once. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (bundles m ρ) $$ H
  ihave H := bigSep_part $$ H; icases H with ⟨HB, H⟩
  ihave H := bigSep_part $$ H; icases H with ⟨Hv, HG⟩
  imod (Rounds.fund_launch ER (rd (inp m)) cells_disjoint (fun g _ h => h) duties) $$ [Hv HG] with ⟨%K, -, #Hinv, #Hr, Hat, Ho, Ht⟩
  · isplitl [Hv]
    · rw [bar_all]; iexact Hv
    · rw [← G_all]; iexact HG
  imodintro
  iapply (bigSep_with_persistent (R := records (inp m) K) (Φ := fun c => iprop(share (F := F) c ∗ bundle m c)) fun c _ => T₀_intro m K c)
  isplitr
  · unfold records
    isplitr; · iexact Hinv
    iexact Hr
  iapply bigSep_join
  isplitr [HB]
  · unfold share
    iapply bigSep_join; isplitl [Hat]; · iapply (Entails.of_eq (bar_all (F := F) (fun g => atPos ER g 0 ∅ 0))); iexact Hat
    iapply bigSep_join
    isplitl [Ho]; · iapply (Entails.of_eq ((own_all (F := F) (fun g => openTok ER g)).trans (bigSep_univ_prod _))); iexact Ho
    iapply (toks_deal (F := F)); iexact Ht
  · iexact HB

end Launch

end Cert.KernelIdeal.Rows
-- ==== Proof.Main.lean ====
module

public import proofs.«01_k».proof.Proof.Launch
public import proofs.«01_k».proof.Proof.Gen.KernelIdeal.Regions
public import proofs.«01_k».proof.Proof.Gen.KernelIdeal.Points
public import Idealize.ShloMosaic.Lib.Pipeline.RegionTalk

/-!
The run of the whole program, over any floats: what every device ends with.
-/

@[expose] public section

noncomputable section

namespace Cert.KernelIdeal.Rows

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What a device ends with: its arguments as launched, the result, its barrier's counter at zero. -/
def Ends (c : Dev nD) (s : MemSt nD τ sig (Elt F)) : Prop :=
  (s.mem ((c.tc : Thread nD τ).loc main_v29) = res (inp m) c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.sem (barC c) = 0

/-- A buffer that outlives the call is among those held. -/
theorem uc_mem (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The end's memory, read off what is held. -/
theorem ends_read (c : Dev nD) (s' : Phys nD τ sig (Elt F)) :
    iprop((StableHlo.held (c : Thread nD τ) (Pipeline.ucRefs τ sig) (Gen.V2 m (outs m) c) ∗ semVal (barC c) 0) ∗ SI s')
      ⊢ (|={Set.univ}=> iprop(⌜Ends m c s'.mem⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (Gen.V2 m (outs m) c) s') $$ [Hh HSI]
  · isplitl [Hh] <;> iassumption
  icases Hr with ⟨%h, HSI⟩
  imodintro
  isplitr
  · ipureintro
    exact ⟨⟨(h _ (uc_mem main_v29 rfl)).trans (outs_v29 m c),
      (h _ (uc_mem main_arg0 rfl)).trans (Gen.V2_main_arg0 m (outs m) c),
      (h _ (uc_mem main_arg1 rfl)).trans (Gen.V2_main_arg1 m (outs m) c),
      (h _ (uc_mem main_arg2 rfl)).trans (Gen.V2_main_arg2 m (outs m) c),
      (h _ (uc_mem main_arg3 rfl)).trans (Gen.V2_main_arg3 m (outs m) c)⟩, by simpa using hb⟩
  · iexact HSI

/-- The program's items. -/
abbrev items (c : Dev nD) : List (Pipeline.Seg (pcfgs (F := F)) Gen.adm (dats m) () defs₀ 𝒱₀ L lv) :=
  [.host (Gen.seg0 m 𝒱₀ L lv (fun _ => E0 m) c), .region (seg m)]

set_option backward.isDefEq.respectTransparency.types false in
/-- From any memory with zero counters every weakly fair execution ends, each device with its arguments unchanged and its
    result `res`, and with every counter at zero. -/
theorem run_main : θ_run defs (onTc (τ := τ) (main (F := F))) ⟨m, fun _ => 0, ρ⟩
    (fun r => (∀ c : Dev nD, r.2.mem ((c.tc : Thread nD τ).loc main_v29) = res (inp m) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  Pipeline.θ_run_regions_kit_dev_sems (pcfgs (F := F)) Gen.adm (dats m) () Gen.cellOf_inj EP defs₀ 𝒱₀ L lv m ρ main (items m)
    (fun c Q => by
      rewrite [Gen.main_chain c, Pipeline.Seg.run_eq_chain,
        show (items m c).map Pipeline.Seg.prog = [StableHlo.seq (Gen.hostOps0 c), Prog.lift (.customCall (Pipeline.entry 0) ())] from rfl]
      dsimp (config := { failIfUnchanged := false }) only
      exact .rfl)
    (fun c => by simp only [items, Pipeline.Seg.pipes_host, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      rw [G_all]; iexact HX)
    (T₀ m) (fun c => iprop(StableHlo.held (c : Thread nD τ) (Pipeline.ucRefs τ sig) (Gen.V2 m (outs m) c) ∗ semVal (barC c) 0))
    (fun c => ⟨.rfl, seg_pre m c, seg_post m c⟩)
    (launch m ρ) (Ends m) (ends_read m)
    (fun s h hs => ⟨fun c => (h c).1, sem_eq_zero hs fun c sm hsm => by
      obtain rfl := unscoped_bar sm hsm
      exact (h c).2⟩)

end Cert.KernelIdeal.Rows
-- ==== Proof.Frames.lean ====
/- The three frames: the kernel's run and the reference's with the values dropped. -/
module

public import proofs.«01_k».proof.Defs
public import proofs.«01_k».proof.Proof.Gen.Kernel
public import proofs.«01_k».proof.Proof.Main
public import proofs.«01_k».proof.Proof.Gen.ReferenceIdeal.Run
public import Idealize.ShloMosaic.Adequacy

@[expose] public section

noncomputable section

namespace Cert.Proof

open Idealize.ShloMosaic Idealize.SL.Sem

/-- Every execution of the idealized kernel ends, its arguments unchanged and every counter at zero. -/
theorem frame_kernelIdeal : Cert.quiescent_KernelIdeal := fun m ρ _ =>
  (θ_run Cert.KernelIdeal.defs _ _).mono (fun _ h => ⟨fun c => (h.1 c).2, h.2⟩)
    (Cert.KernelIdeal.Rows.run_main (F := Ideal) m ρ)

/-- The two programs' bodies are one text: the tables that call them agree at every label. -/
theorem defs₀_same : Cert.Kernel.defs₀ (F := Bits) = Cert.KernelIdeal.defs₀ := by
  unfold Cert.Kernel.defs₀ Cert.KernelIdeal.defs₀
  refine congrArg (fun b => Defs.onTc b) (funext fun i => ?_)
  match i with
  | 0 => rfl

/-- So do the tables with the pipeline's own labels. -/
theorem defs_same : Cert.Kernel.defs (F := Bits) = Cert.KernelIdeal.defs :=
  congrArg (Pipeline.defs Cert.KernelIdeal.pcfgs) defs₀_same

/-- The host code and the call are one text too. -/
theorem main_same : Cert.Kernel.main (F := Bits) = Cert.KernelIdeal.main := rfl

/-- The frame of any table equal to the kernel's own, at the device's floats. -/
theorem frame_of_same (D : Defs Cert.KernelIdeal.nD Cert.KernelIdeal.τ Cert.KernelIdeal.sig (Elt Bits) _)
    (hD : D = Cert.KernelIdeal.defs (F := Bits)) (M : Dev Cert.KernelIdeal.nD → Prog _ PUnit) (hM : M = Cert.KernelIdeal.main (F := Bits))
    (m : (ℓ : Loc Cert.KernelIdeal.nD Cert.KernelIdeal.τ Cert.KernelIdeal.sig) → Buf (Elt Bits) ℓ) (ρ : Dev Cert.KernelIdeal.nD → PrngReg) :
    θ_run D (onTc M) ⟨m, fun _ => 0, ρ⟩ (fun r => (∀ c : Dev Cert.KernelIdeal.nD,
      r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)) ∧ r.2.sem = fun _ => 0) := by
  subst hD
  subst hM
  exact (θ_run Cert.KernelIdeal.defs _ _).mono (fun _ h => ⟨fun c => (h.1 c).2, h.2⟩)
    (Cert.KernelIdeal.Rows.run_main (F := Bits) m ρ)

/-- The kernel itself is the same program, read at the device's floats. -/
theorem frame_kernel : Cert.quiescent_Kernel := fun m ρ _ =>
  frame_of_same (Cert.Kernel.defs (F := Bits)) defs_same (Cert.Kernel.main (F := Bits)) main_same m ρ

/-- Every execution of the reference ends, its arguments unchanged; it has no semaphore at all. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.Value.lean ====
module

public import proofs.«01_k».proof.Proof.Rows
public import Idealize.ShloMosaic.Lib.MatmulPlain
public import Idealize.ShloMosaic.Lib.ValueIdx
public import Idealize.ShloMosaic.Lib.ValueLayout
public import Idealize.ShloMosaic.Lib.Pipeline.Value

/-!
What the two loops compute, over the extended reals: at a token and a column, the sum over the four
experts of the expert's answer times the token's mask.
-/

@[expose] public section

noncomputable section

namespace Cert.KernelIdeal.Rows

open Idealize.ShloMosaic Idealize.ShloMosaic.ValueIdx Cert.KernelIdeal.Gen
open scoped BigOperators

/-- One expert's answer in one column, of one token's row: the two products with the cut at zero between them. -/
def ffn (x : Fin 1024 → EReal) (w1 : Fin 1024 → Fin 2048 → EReal) (w2 : Fin 2048 → EReal) : EReal :=
  ∑ k : Fin 2048, max (∑ l : Fin 1024, x l * w1 l k) 0 * w2 k

/-- Four experts' answers, each times its mask, added in order from zero. -/
def blend (f : Fin 4 → EReal) (m : Fin 4 → EReal) : EReal := 0 + f 0 * m 0 + f 1 * m 1 + f 2 * m 2 + f 3 * m 3

/-- One expert as a block's two matrix products compute it. -/
theorem expert_apply (X : FVec Ideal S256x1024 .bf16) (w1 : Vec Ideal S1x1024x2048 .bf16) (w2 : Vec Ideal S1x2048x1024 .bf16)
    (r : Fin 256) (j : Fin 1024) :
    matmul dot_S256x2048_S2048x1024_S256x1024_1_0_0_1_n_n none
      (truncf .bf16 (maximumf (matmul dot_S256x1024_S1024x2048_S256x2048_1_0_0_1_n_n none X
          (shapeCast S1024x2048 w1 shapeCasts_S1x1024x2048_S1024x2048 : FVec Ideal S1024x2048 .bf16) (constant S256x2048 .f32 0x00000000#32))
        (broadcast S256x2048 (Scalar.ofBits .f32 0x00000000#32))) bitsLt_bf16_f32 : FVec Ideal S256x2048 .bf16)
      (shapeCast S2048x1024 w2 shapeCasts_S1x2048x1024_S2048x1024 : FVec Ideal S2048x1024 .bf16) (constant S256x1024 .f32 0x00000000#32) (ix2 r j)
    = ffn (fun l => X (ix2 r l)) (fun l k => w1 (ix3 (0 : Fin 1) l k)) (fun k => w2 (ix3 (0 : Fin 1) k j)) := by
  refine (Ideal.matmul_plain_apply none _ _ _ r j).trans ?_
  rw [constant_apply, Ideal.ofBits_zero_f32, zero_add]
  refine Finset.sum_congr rfl fun k _ => ?_
  rw [shapeCast_1ab_ab_apply]
  refine congrArg (· * _) ?_
  rw [truncf_apply, maximumf_apply]
  refine congrArg₂ max ?_ Ideal.ofBits_zero_f32
  refine (Ideal.matmul_plain_apply none _ _ _ r k).trans ?_
  rw [constant_apply, Ideal.ofBits_zero_f32, zero_add]
  refine Finset.sum_congr rfl fun l _ => ?_
  rw [shapeCast_1ab_ab_apply]

/-- A mask's column laid along a block's rows. -/
theorem mask_apply (m : Vec Ideal S256x1 .bf16) (r : Fin 256) (j : Fin 1024) :
    broadcastTo S256x1024 (extf .f32 m bitsLt_bf16_f32 : FVec Ideal S256x1 .f32) broadcasts_S256x1_S256x1024 (ix2 r j)
      = m (ix2 r (0 : Fin 1)) := by
  show m _ = m _
  refine congrArg m (funext fun a => ?_)
  match a with
  | ⟨0, _⟩ => rfl
  | ⟨1, _⟩ => rfl

/-- A block that the first loop stores. -/
theorem ownBlk_apply (X : S2048x1024.Idx → Elt Ideal .bf16) (M : S2048x128.Idx → Elt Ideal .bf16)
    (W1 : S4x1024x2048.Idx → Elt Ideal .bf16) (W2 : S4x2048x1024.Idx → Elt Ideal .bf16) (k : Fin 8) (r : Fin 256) (j : Fin 1024) :
    ownBlk X M W1 W2 k (ix2 r j)
      = blend (fun e => ffn (fun l => rowsRd (F := Ideal) (e := .bf16) k X (ix2 r l)) (fun l n => w1Rd e W1 (ix3 (0 : Fin 1) l n)) (fun n => w2Rd e W2 (ix3 (0 : Fin 1) n j)))
          (fun e => colRd k e M (ix2 r (0 : Fin 1))) := by
  unfold ownBlk k0_pay7 k0_pay4 k0_pay3 k0_pay2
  simp only [shapeCast_self, addf_apply, mulf_apply]
  rw [expert_apply, expert_apply, expert_apply, expert_apply]
  simp only [mask_apply]
  unfold blend
  refine congrArg (· + _ * _ + _ * _ + _ * _ + _ * _) ?_
  exact Ideal.ofBits_zero_f32

/-- A block that the second loop stores and sends. -/
theorem partBlk_apply (X : S2048x1024.Idx → Elt Ideal .bf16) (M : S2048x128.Idx → Elt Ideal .bf16)
    (W1 : S4x1024x2048.Idx → Elt Ideal .bf16) (W2 : S4x2048x1024.Idx → Elt Ideal .bf16) (k : Fin 8) (r : Fin 256) (j : Fin 1024) :
    partBlk X M W1 W2 k (ix2 r j)
      = blend (fun e => ffn (fun l => rowsRd (F := Ideal) (e := .bf16) k X (ix2 r l)) (fun l n => w1Rd e W1 (ix3 (0 : Fin 1) l n)) (fun n => w2Rd e W2 (ix3 (0 : Fin 1) n j)))
          (fun e => colRd k e M (ix2 r (0 : Fin 1))) := by
  unfold partBlk k0_pay6 k0_pay5
  simp only [shapeCast_self, truncf_apply, addf_apply, mulf_apply]
  rw [expert_apply, expert_apply, expert_apply, expert_apply]
  simp only [mask_apply]
  unfold blend
  refine congrArg (· + _ * _ + _ * _ + _ * _ + _ * _) ?_
  exact Ideal.ofBits_zero_f32

/-- A row of a block is the buffer's row. -/
theorem row_emb (i : S2048x1024.Idx) (l : Fin 1024) : (rowR (blockOf i)).emb (ix2 (inBlock i 0) l) = ix2 (i 0) l := by
  funext a
  refine Fin.ext ?_
  match a with
  | ⟨0, _⟩ =>
    refine (rowR_emb0 (blockOf i) (ix2 (inBlock i 0) l)).trans ?_
    show 256 * ((i 0 : Nat) / 256) + (i 0 : Nat) % 256 = (i 0 : Nat)
    omega
  | ⟨1, _⟩ => exact rowR_emb1 (blockOf i) (ix2 (inBlock i 0) l)

/-- A row of a block of a mask's column is the mask's row. -/
theorem col_emb (i : S2048x1024.Idx) (e : Fin 4) :
    (colR (blockOf i) e).emb (ix2 (inBlock i 0) (0 : Fin 1)) = ix2 (i 0) (⟨e.val, by have := e.isLt; omega⟩ : Fin 128) := by
  funext a
  refine Fin.ext ?_
  match a with
  | ⟨0, _⟩ =>
    refine ((colR (blockOf i) e).emb_apply _ 0).trans ?_
    show 256 * ((i 0 : Nat) / 256) + 1 * ((i 0 : Nat) % 256) = (i 0 : Nat)
    omega
  | ⟨1, _⟩ =>
    refine ((colR (blockOf i) e).emb_apply _ 1).trans ?_
    show e.val + 1 * 0 = e.val
    omega

/-- An expert's first weights in the whole array. -/
theorem w1_emb (e : Fin 4) (l : Fin 1024) (n : Fin 2048) : (w1R e).emb (ix3 (0 : Fin 1) l n) = ix3 e l n := by
  funext a
  refine Fin.ext (((w1R e).emb_apply _ a).trans ?_)
  match a with
  | ⟨0, _⟩ => show e.val + 1 * 0 = e.val; omega
  | ⟨1, _⟩ => show 0 + 1 * l.val = l.val; omega
  | ⟨2, _⟩ => show 0 + 1 * n.val = n.val; omega

/-- An expert's second weights in the whole array. -/
theorem w2_emb (e : Fin 4) (n : Fin 2048) (j : Fin 1024) : (w2R e).emb (ix3 (0 : Fin 1) n j) = ix3 e n j := by
  funext a
  refine Fin.ext (((w2R e).emb_apply _ a).trans ?_)
  match a with
  | ⟨0, _⟩ => show e.val + 1 * 0 = e.val; omega
  | ⟨1, _⟩ => show 0 + 1 * n.val = n.val; omega
  | ⟨2, _⟩ => show 0 + 1 * j.val = j.val; omega

/-- Four experts' answers for the token of an index, in its column. -/
def answers (X : S2048x1024.Idx → EReal) (W1 : S4x1024x2048.Idx → EReal) (W2 : S4x2048x1024.Idx → EReal) (i : S2048x1024.Idx)
    (e : Fin 4) : EReal :=
  ffn (fun l => X (ix2 (i 0) l)) (fun l n => W1 (ix3 e l n)) (fun n => W2 (ix3 e n (i 1)))

/-- The four masks of a token. -/
def masks (M : S2048x128.Idx → EReal) (i : S2048x1024.Idx) (e : Fin 4) : EReal :=
  M (ix2 (i 0) (⟨e.val, by have := e.isLt; omega⟩ : Fin 128))

/-- The place in its block of an index, by coordinates. -/
theorem inBlock_eq (i : S2048x1024.Idx) : inBlock i = ix2 (inBlock i 0) (i 1) := by
  funext a
  match a with
  | ⟨0, _⟩ => rfl
  | ⟨1, _⟩ => rfl

/-- What a block holds of a token, from the whole buffers. -/
theorem block_mix (X : S2048x1024.Idx → Elt Ideal .bf16) (M : S2048x128.Idx → Elt Ideal .bf16)
    (W1 : S4x1024x2048.Idx → Elt Ideal .bf16) (W2 : S4x2048x1024.Idx → Elt Ideal .bf16) (i : S2048x1024.Idx) :
    blend (fun e => ffn (fun l => rowsRd (F := Ideal) (e := .bf16) (blockOf i) X (ix2 (inBlock i 0) l))
        (fun l n => w1Rd e W1 (ix3 (0 : Fin 1) l n)) (fun n => w2Rd e W2 (ix3 (0 : Fin 1) n (i 1))))
      (fun e => colRd (blockOf i) e M (ix2 (inBlock i 0) (0 : Fin 1)))
    = blend (answers X W1 W2 i) (masks M i) := by
  unfold rowsRd w1Rd w2Rd colRd answers masks
  simp only [row_emb, col_emb, w1_emb]
  exact congrArg (blend · _) (funext fun e => congrArg (ffn _ _) (funext fun n => congrArg W2 (w2_emb e n (i 1))))

/-- The first loop's result. -/
theorem ownV_apply (X : S2048x1024.Idx → Elt Ideal .bf16) (M : S2048x128.Idx → Elt Ideal .bf16)
    (W1 : S4x1024x2048.Idx → Elt Ideal .bf16) (W2 : S4x2048x1024.Idx → Elt Ideal .bf16) (i : S2048x1024.Idx) :
    ownV X M W1 W2 i = blend (answers X W1 W2 i) (masks M i) := by
  unfold ownV
  rw [inBlock_eq i]
  exact (ownBlk_apply X M W1 W2 (blockOf i) (inBlock i 0) (i 1)).trans (block_mix X M W1 W2 i)

/-- The second loop's result. -/
theorem partV_apply (X : S2048x1024.Idx → Elt Ideal .bf16) (M : S2048x128.Idx → Elt Ideal .bf16)
    (W1 : S4x1024x2048.Idx → Elt Ideal .bf16) (W2 : S4x2048x1024.Idx → Elt Ideal .bf16) (i : S2048x1024.Idx) :
    partV X M W1 W2 i = blend (answers X W1 W2 i) (masks M i) := by
  unfold partV
  rw [inBlock_eq i]
  exact (partBlk_apply X M W1 W2 (blockOf i) (inBlock i 0) (i 1)).trans (block_mix X M W1 W2 i)

/-- The third loop adds the part received. -/
theorem sumV_apply (A : S2048x1024.Idx → Elt Ideal .f32) (R : S2048x1024.Idx → Elt Ideal .bf16) (i : S2048x1024.Idx) :
    sumV A R i = (A i : EReal) + R i := by
  unfold sumV k0_pay1
  simp only [shapeCast_self, addf_apply, extf_apply]
  unfold rowsRd
  rw [emb_inBlock]

/-- Eight masked answers, four of them a token's own and four its partner's: exactly the one that the token asks for is left. -/
theorem blend_pick (f g : Fin 4 → EReal) (m n : Fin 4 → EReal) (a : BitVec 32) (u v : BitVec 32)
    (hm : ∀ e : Fin 4, m e = if a = u + BitVec.ofNat 32 e.val then 1 else 0)
    (hn : ∀ e : Fin 4, n e = if a = v + BitVec.ofNat 32 e.val then 1 else 0)
    (huv : (u = 0#32 ∧ v = 4#32) ∨ (u = 4#32 ∧ v = 0#32)) (F : Fin 8 → EReal)
    (hf : ∀ e : Fin 4, f e = F ⟨u.toNat + e.val, by have := e.isLt; rcases huv with ⟨h, -⟩ | ⟨h, -⟩ <;> subst h <;> simp <;> omega⟩)
    (hg : ∀ e : Fin 4, g e = F ⟨v.toNat + e.val, by have := e.isLt; rcases huv with ⟨-, h⟩ | ⟨-, h⟩ <;> subst h <;> simp <;> omega⟩) :
    blend f m + blend g n = if a = 7#32 then F 7 else if a = 6#32 then F 6 else if a = 5#32 then F 5 else if a = 4#32 then F 4
      else if a = 3#32 then F 3 else if a = 2#32 then F 2 else if a = 1#32 then F 1 else if a = 0#32 then F 0 else 0 := by
  unfold blend
  simp only [hm, hn, hf, hg]
  rcases huv with ⟨rfl, rfl⟩ | ⟨rfl, rfl⟩ <;>
  · by_cases h7 : a = 7#32
    · subst h7; simp
    by_cases h6 : a = 6#32
    · subst h6; simp
    by_cases h5 : a = 5#32
    · subst h5; simp
    by_cases h4 : a = 4#32
    · subst h4; simp
    by_cases h3 : a = 3#32
    · subst h3; simp
    by_cases h2 : a = 2#32
    · subst h2; simp
    by_cases h1 : a = 1#32
    · subst h1; simp
    by_cases h0 : a = 0#32
    · subst h0; simp
    simp [h7, h6, h5, h4, h3, h2, h1, h0]

end Cert.KernelIdeal.Rows
-- ==== Proof.Host.lean ====
module

public import proofs.«01_k».proof.Proof.Seg
public import proofs.«01_k».proof.Proof.Value
public import Idealize.ShloMosaic.Lib.StableHlo.Run

/-!
What the host operations before the call leave: the arguments at the kernel's format, which over the
extended reals are the arguments, and the two masks, which are one where a token's expert is the column's.
-/

@[expose] public section

noncomputable section

namespace Cert.KernelIdeal.Rows

open Idealize.ShloMosaic Idealize.ShloMosaic.ValueIdx Cert.KernelIdeal.Gen
open Idealize.ShloMosaic.TcCoe
open Idealize.ShloMosaic.StableHlo

/-- The place of a device on the mesh's first axis, as the host computes it. -/
def axis (c : Dev nD) : IVec S_ 32 :=
  Host.remui (Host.divui (constantI S_ 32 (Dev.word c)) (constantI S_ 32 16#32)) (constantI S_ 32 2#32)

/-- The first of a device's own experts. -/
theorem own_first (c : Dev nD) : muli (constantI S_ 32 4#32) (axis c) ix0 = BitVec.ofNat 32 (4 * (c.val / 16)) := by
  revert c; decide

/-- The first of its partner's experts. -/
theorem peer_first (c : Dev nD) :
    muli (constantI S_ 32 4#32) (subi (constantI S_ 32 1#32) (axis c)) ix0 = BitVec.ofNat 32 (4 * (1 - c.val / 16)) := by
  revert c; decide

/-- A mask: one where the token's expert is the first one plus the column. -/
def maskOf (a : IVec S2048 32) (first : IVec S_ 32) : FVec Ideal S2048x128 .bf16 :=
  uitofp .bf16 (cmpi .eq
    (broadcastInDim S2048x128 ![0, 1] bcast_S2048x1_S2048x128_0_1 (broadcastInDim S2048x1 ![0] bcast_S2048_S2048x1_0 a))
    (broadcastInDim S2048x128 ![0, 1] bcast_S1x128_S2048x128_0_1 (broadcastInDim S1x128 ![1] bcast_S128_S1x128_1
      (addi (broadcastInDim S128 ![] bcast_S_S128 first) (iotaInDim S128 32 0)))))

/-- A mask at a token and a column. -/
theorem maskOf_apply (a : IVec S2048 32) (first : IVec S_ 32) (t : Fin 2048) (e : Fin 128) :
    maskOf a first (ix2 t e) = (if a (ix1 t) = first ix0 + BitVec.ofNat 32 e.val then 1 else 0 : EReal) := by
  have h : maskOf a first (ix2 t e) = (((BitVec.ofBool (a (ix1 t) == first ix0 + BitVec.ofNat 32 e.val)).toNat : ℝ) : EReal) := by
    show (((BitVec.ofBool (a _ == first _ + BitVec.ofNat 32 _)).toNat : ℝ) : EReal) = _
    have h1 : ∀ k : S2048.Idx, (k 0).val = t.val → k = ix1 t := fun k hk => funext fun d => match d with
      | ⟨0, _⟩ => Fin.ext hk
    refine congrArg₂ (fun k z => (((BitVec.ofBool (a k == z)).toNat : ℝ) : EReal)) (h1 _ rfl) ?_
    exact congrArg₂ (fun k z => first k + BitVec.ofNat 32 z) (eq_ix0 _) rfl
  rw [h]
  by_cases hb : a (ix1 t) = first ix0 + BitVec.ofNat 32 e.val
  · rw [if_pos hb, hb]; simp
  · rw [if_neg hb]
    have : (a (ix1 t) == first ix0 + BitVec.ofNat 32 e.val) = false := by simpa using hb
    rw [this]; simp

variable (m : (ℓ : Loc nD τ sig) → Buf (Elt Ideal) ℓ) (c : Dev nD)

/-- The kernel's tokens are the argument's. -/
theorem inp_x : (inp m c).x = m ((c.tc : Thread nD τ).loc main_arg0) := by
  show Gen.V1 m c main_v26 = _
  unfold Gen.V1 Gen.hostOps0
  after_results_simp <;> rfl

/-- The first weights are the argument's. -/
theorem inp_w1 : (inp m c).w1 = m ((c.tc : Thread nD τ).loc main_arg2) := by
  show Gen.V1 m c main_v27 = _
  unfold Gen.V1 Gen.hostOps0
  after_results_simp <;> rfl

/-- The second weights are the argument's. -/
theorem inp_w2 : (inp m c).w2 = m ((c.tc : Thread nD τ).loc main_arg3) := by
  show Gen.V1 m c main_v28 = _
  unfold Gen.V1 Gen.hostOps0
  after_results_simp <;> rfl

/-- The mask of the device's own experts. -/
theorem inp_keep : (inp m c).keep = maskOf (m ((c.tc : Thread nD τ).loc main_arg1)) (muli (constantI S_ 32 4#32) (axis c)) := by
  show Gen.V1 m c main_v19 = _
  unfold Gen.V1 Gen.hostOps0
  after_results_simp <;> rfl

/-- The mask of its partner's experts. -/
theorem inp_send : (inp m c).send
    = maskOf (m ((c.tc : Thread nD τ).loc main_arg1)) (muli (constantI S_ 32 4#32) (subi (constantI S_ 32 1#32) (axis c))) := by
  show Gen.V1 m c main_v25 = _
  unfold Gen.V1 Gen.hostOps0
  after_results_simp <;> rfl

end Cert.KernelIdeal.Rows
-- ==== Proof.Ref.lean ====
module

public import proofs.«01_k».proof.Proof.Gen.ReferenceIdeal.Run
public import proofs.«01_k».proof.Proof.Value
public import Idealize.ShloMosaic.Lib.StackMember

/-!
The reference, over the extended reals: at a token and a column, the answer of the expert that the
token is assigned to, and zero if there is none.
-/

@[expose] public section

noncomputable section

namespace Cert.ReferenceIdeal.Value

open Idealize.ShloMosaic Idealize.ShloMosaic.ValueIdx Cert.ReferenceIdeal Cert.ReferenceIdeal.Gen
open Cert.KernelIdeal.Rows (ffn)
open scoped BigOperators

/-- One expert, at one element of the reference's product. -/
theorem expert_apply (x : FVec Ideal S4096x1024 .f32) (W1 : FVec Ideal S8x1024x2048 .f32) (W2 : FVec Ideal S8x2048x1024 .f32)
    (g : Fin 8) (h1 : S8x1024x2048.Slices ![g.val, 0, 0] S1x1024x2048) (h2 : S8x2048x1024.Slices ![g.val, 0, 0] S1x2048x1024)
    (t : Fin 4096) (j : Fin 1024) :
    Host.dotGeneral dot_S4096x2048_S2048x1024_S4096x1024_1_0_0_1_n_n none
      (maximumf (Host.dotGeneral dot_S4096x1024_S1024x2048_S4096x2048_1_0_0_1_n_n none x
          (shapeCast S1024x2048 (extractStridedSlice S1x1024x2048 ![g.val, 0, 0] W1 h1) shapeCasts_S1x1024x2048_S1024x2048 : FVec Ideal S1024x2048 .f32))
        (broadcastInDim S4096x2048 ![] bcast_S_S4096x2048 (constant S_ .f32 0x00000000#32)) : FVec Ideal S4096x2048 .f32)
      (shapeCast S2048x1024 (extractStridedSlice S1x2048x1024 ![g.val, 0, 0] W2 h2) shapeCasts_S1x2048x1024_S2048x1024 : FVec Ideal S2048x1024 .f32)
      (ix2 t j)
    = ffn (fun l => x (ix2 t l)) (fun l k => W1 (ix3 g l k)) (fun k => W2 (ix3 g k j)) := by
  refine (StackMember.dotGeneral_plain_apply none _ _ t j).trans ?_
  refine Finset.sum_congr rfl fun k _ => ?_
  rw [shapeCast_1ab_ab_apply]
  refine congrArg₂ (· * ·) ?_ ?_
  · rw [maximumf_apply]
    refine congrArg₂ max ?_ Ideal.ofBits_zero_f32
    refine (StackMember.dotGeneral_plain_apply none _ _ t k).trans ?_
    refine Finset.sum_congr rfl fun l _ => ?_
    rw [shapeCast_1ab_ab_apply]
    refine congrArg (_ * ·) (congrArg W1 (funext fun a => Fin.ext ?_))
    match a with
    | ⟨0, _⟩ => rfl
    | ⟨1, _⟩ => exact Nat.zero_add _
    | ⟨2, _⟩ => exact Nat.zero_add _
  · refine congrArg W2 (funext fun a => Fin.ext ?_)
    match a with
    | ⟨0, _⟩ => rfl
    | ⟨1, _⟩ => exact Nat.zero_add _
    | ⟨2, _⟩ => exact Nat.zero_add _

/-- The choice of one expert, at one element. -/
theorem choice_apply (a : IVec S4096 32) (b : BitVec 32) (y z : FVec Ideal S4096x1024 .f32) (t : Fin 4096) (j : Fin 1024) :
    select (broadcastInDim S4096x1024 ![0, 1] bcast_S4096x1_S4096x1024_0_1 (broadcastInDim S4096x1 ![0] bcast_S4096_S4096x1_0
        (cmpi .eq a (broadcastInDim S4096 ![] bcast_S_S4096 (constantI S_ 32 b))))) y z (ix2 t j)
      = if a (ix1 t) = b then y (ix2 t j) else z (ix2 t j) := by
  have h : broadcastInDim S4096x1024 ![0, 1] bcast_S4096x1_S4096x1024_0_1 (broadcastInDim S4096x1 ![0] bcast_S4096_S4096x1_0
        (cmpi .eq a (broadcastInDim S4096 ![] bcast_S_S4096 (constantI S_ 32 b)))) (ix2 t j)
      = BitVec.ofBool (a (ix1 t) == b) := by
    show BitVec.ofBool (a _ == b) = _
    refine congrArg (fun k => BitVec.ofBool (a k == b)) (funext fun d => ?_)
    match d with
    | ⟨0, _⟩ => rfl
  rw [select_apply, h]
  by_cases hb : a (ix1 t) = b
  · rw [if_pos hb, hb]; simp [select_one]
  · rw [if_neg hb]
    have : (a (ix1 t) == b) = false := by simpa using hb
    rw [this]; exact select_zero _ _

/-- The reference's result at one element. -/
theorem res_apply (m : (ℓ : Loc nD τ sig) → Buf (Elt Ideal) ℓ) (c : Dev nD) (t : Fin 4096) (j : Fin 1024) (F : Fin 8 → EReal)
    (hF : ∀ g, F g = ffn (fun l => (m (c.tc.loc main_arg0) : FVec Ideal S4096x1024 .f32) (ix2 t l))
      (fun l k => (m (c.tc.loc main_arg2) : FVec Ideal S8x1024x2048 .f32) (ix3 g l k))
      (fun k => (m (c.tc.loc main_arg3) : FVec Ideal S8x2048x1024 .f32) (ix3 g k j)))
    (a : BitVec 32) (ha : a = (m (c.tc.loc main_arg1) : IVec S4096 32) (ix1 t)) :
    (res_main_v96 m c : FVec Ideal S4096x1024 .f32) (ix2 t j)
      = if a = 7#32 then F 7 else if a = 6#32 then F 6 else if a = 5#32 then F 5 else if a = 4#32 then F 4
        else if a = 3#32 then F 3 else if a = 2#32 then F 2 else if a = 1#32 then F 1 else if a = 0#32 then F 0 else 0 := by
  subst ha
  unfold res_main_v96
  refine (choice_apply _ _ _ _ t j).trans ?_
  refine if_congr Iff.rfl ((expert_apply _ _ _ 7 _ _ t j).trans (hF 7).symm) ?_
  refine (choice_apply _ _ _ _ t j).trans ?_
  refine if_congr Iff.rfl ((expert_apply _ _ _ 6 _ _ t j).trans (hF 6).symm) ?_
  refine (choice_apply _ _ _ _ t j).trans ?_
  refine if_congr Iff.rfl ((expert_apply _ _ _ 5 _ _ t j).trans (hF 5).symm) ?_
  refine (choice_apply _ _ _ _ t j).trans ?_
  refine if_congr Iff.rfl ((expert_apply _ _ _ 4 _ _ t j).trans (hF 4).symm) ?_
  refine (choice_apply _ _ _ _ t j).trans ?_
  refine if_congr Iff.rfl ((expert_apply _ _ _ 3 _ _ t j).trans (hF 3).symm) ?_
  refine (choice_apply _ _ _ _ t j).trans ?_
  refine if_congr Iff.rfl ((expert_apply _ _ _ 2 _ _ t j).trans (hF 2).symm) ?_
  refine (choice_apply _ _ _ _ t j).trans ?_
  refine if_congr Iff.rfl ((expert_apply _ _ _ 1 _ _ t j).trans (hF 1).symm) ?_
  refine (choice_apply _ _ _ _ t j).trans ?_
  exact if_congr Iff.rfl ((expert_apply _ _ _ 0 _ _ t j).trans (hF 0).symm) Ideal.ofBits_zero_f32

end Cert.ReferenceIdeal.Value
-- ==== Proof.Algebraic.lean ====
/- The value claim: the kernel's result on every device is that device's rows of the reference's. -/
module

public import proofs.«01_k».proof.Defs
public import proofs.«01_k».proof.Proof.Main
public import proofs.«01_k».proof.Proof.Host
public import proofs.«01_k».proof.Proof.Ref
public import Idealize.ShloMosaic.Adequacy

@[expose] public section

noncomputable section

namespace Cert.Proof

open Idealize.ShloMosaic Idealize.ShloMosaic.ValueIdx Idealize.SL.Sem
open Cert.KernelIdeal.Rows (ffn blend answers masks res inp pr own part)

/-- A device's place on the mesh's first axis is one of two. -/
theorem axis_lt (c : Dev Cert.KernelIdeal.nD) : c.val / 16 < 2 := by
  have : c.val < 32 := c.isLt
  omega

/-- The first axis of the mesh, as the layout computes it. -/
theorem lin_axis (c : Dev Cert.KernelIdeal.nD) : Layout.meshLin [2, 4, 4] c.val [0] = c.val / 16 := by
  revert c; decide

/-- A device's rows of a table of rows. -/
theorem rows_apply {V : Type} (v : (⟨2, ![4096, 1024]⟩ : Shape).Idx → V) (c : Dev Cert.KernelIdeal.nD) (t : Fin 2048) (j : Fin 1024)
    (h : Layout.TilesN ⟨2, ![2048, 1024]⟩ ⟨2, ![4096, 1024]⟩ fun b => Layout.cutSize [2, 4, 4] ((![[0], []] : Fin 2 → List Nat) b)) :
    Layout.blockN ⟨2, ![2048, 1024]⟩ ⟨2, ![4096, 1024]⟩ (Layout.meshBlock [2, 4, 4] ![[0], []] c) v h (ix2 t j)
      = v (ix2 ⟨c.val / 16 * 2048 + t.val, by have := axis_lt c; have := t.isLt; omega⟩ j) := by
  rw [Layout.blockN_apply]
  refine congrArg v (funext fun d => ?_)
  match d with
  | ⟨0, _⟩ => exact Fin.ext (congrArg (· * 2048 + t.val) (lin_axis c))
  | ⟨1, _⟩ => exact Fin.ext (show 0 * 1024 + j.val = j.val by omega)

/-- A device's part of the assignments. -/
theorem assigned_apply {V : Type} (v : (⟨1, ![4096]⟩ : Shape).Idx → V) (c : Dev Cert.KernelIdeal.nD) (t : Fin 2048)
    (h : Layout.TilesN ⟨1, ![2048]⟩ ⟨1, ![4096]⟩ fun b => Layout.cutSize [2, 4, 4] ((![[0]] : Fin 1 → List Nat) b)) :
    Layout.blockN ⟨1, ![2048]⟩ ⟨1, ![4096]⟩ (Layout.meshBlock [2, 4, 4] ![[0]] c) v h (ix1 t)
      = v (ix1 ⟨c.val / 16 * 2048 + t.val, by have := axis_lt c; have := t.isLt; omega⟩) := by
  rw [Layout.blockN_apply]
  refine congrArg v (funext fun d => ?_)
  match d with
  | ⟨0, _⟩ => exact Fin.ext (congrArg (· * 2048 + t.val) (lin_axis c))

/-- A device's experts' first weights. -/
theorem up_apply {V : Type} (v : (⟨3, ![8, 1024, 2048]⟩ : Shape).Idx → V) (c : Dev Cert.KernelIdeal.nD)
    (e : Fin 4) (l : Fin 1024) (k : Fin 2048)
    (h : Layout.TilesN ⟨3, ![4, 1024, 2048]⟩ ⟨3, ![8, 1024, 2048]⟩ fun b => Layout.cutSize [2, 4, 4] ((![[0], [], []] : Fin 3 → List Nat) b)) :
    Layout.blockN ⟨3, ![4, 1024, 2048]⟩ ⟨3, ![8, 1024, 2048]⟩ (Layout.meshBlock [2, 4, 4] ![[0], [], []] c) v h (ix3 e l k)
      = v (ix3 ⟨c.val / 16 * 4 + e.val, by have := axis_lt c; have := e.isLt; omega⟩ l k) := by
  rw [Layout.blockN_apply]
  refine congrArg v (funext fun d => ?_)
  match d with
  | ⟨0, _⟩ => exact Fin.ext (congrArg (· * 4 + e.val) (lin_axis c))
  | ⟨1, _⟩ => exact Fin.ext (show 0 * 1024 + l.val = l.val by omega)
  | ⟨2, _⟩ => exact Fin.ext (show 0 * 2048 + k.val = k.val by omega)

/-- A device's experts' second weights. -/
theorem down_apply {V : Type} (v : (⟨3, ![8, 2048, 1024]⟩ : Shape).Idx → V) (c : Dev Cert.KernelIdeal.nD)
    (e : Fin 4) (k : Fin 2048) (j : Fin 1024)
    (h : Layout.TilesN ⟨3, ![4, 2048, 1024]⟩ ⟨3, ![8, 2048, 1024]⟩ fun b => Layout.cutSize [2, 4, 4] ((![[0], [], []] : Fin 3 → List Nat) b)) :
    Layout.blockN ⟨3, ![4, 2048, 1024]⟩ ⟨3, ![8, 2048, 1024]⟩ (Layout.meshBlock [2, 4, 4] ![[0], [], []] c) v h (ix3 e k j)
      = v (ix3 ⟨c.val / 16 * 4 + e.val, by have := axis_lt c; have := e.isLt; omega⟩ k j) := by
  rw [Layout.blockN_apply]
  refine congrArg v (funext fun d => ?_)
  match d with
  | ⟨0, _⟩ => exact Fin.ext (congrArg (· * 4 + e.val) (lin_axis c))
  | ⟨1, _⟩ => exact Fin.ext (show 0 * 2048 + k.val = k.val by omega)
  | ⟨2, _⟩ => exact Fin.ext (show 0 * 1024 + j.val = j.val by omega)

/-- The two devices of a pair hold the two halves of the experts. -/
theorem firsts (c : Dev Cert.KernelIdeal.nD) :
    (BitVec.ofNat 32 (4 * (c.val / 16)) = 0#32 ∧ BitVec.ofNat 32 (4 * (1 - c.val / 16)) = 4#32)
      ∨ (BitVec.ofNat 32 (4 * (c.val / 16)) = 4#32 ∧ BitVec.ofNat 32 (4 * (1 - c.val / 16)) = 0#32) := by
  revert c; decide

/-- The number of a device's first expert, as a word. -/
theorem first_own (c : Dev Cert.KernelIdeal.nD) : c.val / 16 * 4 = (BitVec.ofNat 32 (4 * (c.val / 16))).toNat := by
  revert c; decide

/-- The number of its partner's first expert, as a word. -/
theorem first_peer (c : Dev Cert.KernelIdeal.nD) : (pr c).val / 16 * 4 = (BitVec.ofNat 32 (4 * (1 - c.val / 16))).toNat := by
  revert c; decide

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's tokens. -/
abbrev wholeX : FVec Ideal ⟨2, ![4096, 1024]⟩ .f32 := m' (((0 : Dev Cert.ReferenceIdeal.nD).tc : Thread Cert.ReferenceIdeal.nD Cert.ReferenceIdeal.τ).loc Cert.ReferenceIdeal.main_arg0)
/-- The reference's assignments. -/
abbrev wholeA : IVec ⟨1, ![4096]⟩ 32 := m' (((0 : Dev Cert.ReferenceIdeal.nD).tc : Thread Cert.ReferenceIdeal.nD Cert.ReferenceIdeal.τ).loc Cert.ReferenceIdeal.main_arg1)
/-- The reference's first weights. -/
abbrev wholeU : FVec Ideal ⟨3, ![8, 1024, 2048]⟩ .f32 := m' (((0 : Dev Cert.ReferenceIdeal.nD).tc : Thread Cert.ReferenceIdeal.nD Cert.ReferenceIdeal.τ).loc Cert.ReferenceIdeal.main_arg2)
/-- The reference's second weights. -/
abbrev wholeD : FVec Ideal ⟨3, ![8, 2048, 1024]⟩ .f32 := m' (((0 : Dev Cert.ReferenceIdeal.nD).tc : Thread Cert.ReferenceIdeal.nD Cert.ReferenceIdeal.τ).loc Cert.ReferenceIdeal.main_arg3)

/-- Every device's arguments are its blocks of the reference's. -/
def Cut : Prop := ∀ c : Dev Cert.KernelIdeal.nD,
  m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (wholeX m')
  ∧ m ((c.tc : Thread Cert.KernelIdeal.nD Cert.KernelIdeal.τ).loc Cert.KernelIdeal.main_arg1) = Layout.blockN ⟨1, ![2048]⟩ ⟨1, ![4096]⟩ (Layout.meshBlock [2, 4, 4] ![[0]] c) (wholeA m')
  ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 4, 4] ![[0], [], []] c) (wholeU m')
  ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 4, 4] ![[0], [], []] c) (wholeD m')

/-- Expert `g`'s answer for a whole token in one column. -/
def expert (T : Fin 4096) (j : Fin 1024) (g : Fin 8) : EReal :=
  ffn (fun l => wholeX m' (ix2 T l)) (fun l k => wholeU m' (ix3 g l k)) (fun k => wholeD m' (ix3 g k j))

/-- What device `d`'s experts answer for the tokens of device `c`. -/
theorem answers_eq (h : Cut m m') (c d : Dev Cert.KernelIdeal.nD) (t : Fin 2048) (j : Fin 1024) (e : Fin 4) :
    answers (inp m c).x (inp m d).w1 (inp m d).w2 (ix2 t j) e
      = expert m' ⟨c.val / 16 * 2048 + t.val, by have := axis_lt c; have := t.isLt; omega⟩ j
          ⟨d.val / 16 * 4 + e.val, by have := axis_lt d; have := e.isLt; omega⟩ := by
  unfold answers expert
  rw [Cert.KernelIdeal.Rows.inp_x, Cert.KernelIdeal.Rows.inp_w1, Cert.KernelIdeal.Rows.inp_w2, (h c).1, (h d).2.2.1, (h d).2.2.2]
  have hx : ∀ l : Fin 1024, _ := fun l => rows_apply (wholeX m') c t l (by decide)
  have hu : ∀ (l : Fin 1024) (k : Fin 2048), _ := fun l k => up_apply (wholeU m') d e l k (by decide)
  have hd : ∀ k : Fin 2048, _ := fun k => down_apply (wholeD m') d e k j (by decide)
  exact congr (congr (congrArg ffn (funext hx)) (funext fun l => funext (hu l))) (funext hd)

/-- A mask of device `c`, at a token and one of four experts. -/
theorem masks_eq (h : Cut m m') (c : Dev Cert.KernelIdeal.nD) (first : IVec Cert.KernelIdeal.S_ 32) (t : Fin 2048) (j : Fin 1024) (e : Fin 4) :
    masks (Cert.KernelIdeal.Rows.maskOf (m ((c.tc : Thread Cert.KernelIdeal.nD Cert.KernelIdeal.τ).loc Cert.KernelIdeal.main_arg1)) first) (ix2 t j) e
      = if wholeA m' (ix1 ⟨c.val / 16 * 2048 + t.val, by have := axis_lt c; have := t.isLt; omega⟩) = first ix0 + BitVec.ofNat 32 e.val then 1 else 0 := by
  unfold masks
  refine (Cert.KernelIdeal.Rows.maskOf_apply _ first t _).trans ?_
  rw [(h c).2.1]
  exact if_congr (iff_of_eq (congrArg (· = first ix0 + BitVec.ofNat 32 e.val) (assigned_apply (wholeA m') c t (by decide)))) rfl rfl

/-- The kernel's result at an element: the device's own experts' answers and its partner's, each masked. -/
theorem res_blend (c : Dev Cert.KernelIdeal.nD) (i : Cert.KernelIdeal.S2048x1024.Idx) :
    res (inp m) c i = blend (answers (inp m c).x (inp m c).w1 (inp m c).w2 i) (masks (inp m c).keep i)
      + blend (answers (inp m c).x (inp m (pr c)).w1 (inp m (pr c)).w2 i) (masks (inp m c).send i) := by
  unfold res
  refine (Cert.KernelIdeal.Rows.sumV_apply _ _ i).trans ?_
  unfold own part
  rw [Cert.KernelIdeal.Rows.pr_pr]
  exact congrArg₂ (fun a b : EReal => a + b) (Cert.KernelIdeal.Rows.ownV_apply _ _ _ _ i) (Cert.KernelIdeal.Rows.partV_apply _ _ _ _ i)

/-- The kernel's result on a device is its rows of the reference's result. -/
theorem res_eq (h : Cut m m') (c : Dev Cert.KernelIdeal.nD) :
    res (inp m) c = Layout.blockN ⟨2, ![2048, 1024]⟩ ⟨2, ![4096, 1024]⟩ (Layout.meshBlock [2, 4, 4] ![[0], []] c)
      (Cert.ReferenceIdeal.Value.res_main_v96 m' 0 : FVec Ideal ⟨2, ![4096, 1024]⟩ .f32) := by
  funext i
  obtain ⟨t, j, rfl⟩ : ∃ (t : Fin 2048) (j : Fin 1024), i = (ix2 t j : (⟨2, ![2048, 1024]⟩ : Shape).Idx) := ⟨i 0, i 1, eq_ix2 i⟩
  refine Eq.trans ?_ (rows_apply _ c t j _).symm
  refine Eq.trans ?_ (Cert.ReferenceIdeal.Value.res_apply m' 0 _ j (expert m' _ j) (fun _ => rfl) _ rfl).symm
  refine (res_blend m c _).trans ?_
  rw [Cert.KernelIdeal.Rows.inp_keep, Cert.KernelIdeal.Rows.inp_send]
  refine Cert.KernelIdeal.Rows.blend_pick _ _ _ _ _ _ _ (fun e => ?_) (fun e => ?_) (firsts c) _ (fun e => ?_) (fun e => ?_)
  · exact (masks_eq m m' h c _ t j e).trans (by rw [Cert.KernelIdeal.Rows.own_first])
  · exact (masks_eq m m' h c _ t j e).trans (by rw [Cert.KernelIdeal.Rows.peer_first])
  · exact (answers_eq m m' h c c t j e).trans (congrArg _ (Fin.ext (congrArg (· + e.val) (first_own c))))
  · exact (answers_eq m m' h c (pr c) t j e).trans (congrArg _ (Fin.ext (congrArg (· + e.val) (first_peer c))))

end

/-- The idealized kernel computes the reference, block by block. -/
theorem algebraic : Cert.algebraic_KernelIdeal_ReferenceIdeal := fun m g m' g' _ h =>
  ⟨Cert.ReferenceIdeal.Value.res_main_v96 m' 0,
    (θ_run Cert.KernelIdeal.defs _ _).mono (fun _ hr c => ⟨(hr.1 c).1.trans (res_eq m m' h c), (hr.1 c).2⟩)
      (Cert.KernelIdeal.Rows.run_main (F := Ideal) m g),
    (θ_run Cert.ReferenceIdeal.defs _ _).mono (fun _ hr => hr 0) (Cert.ReferenceIdeal.Value.run m' g')⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- The kernel's frames, the reference's, and the values. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
